-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_keys [hPre_finite_queries_keys : Cert.Pre_finite_queries_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_keys [hPre_finite_queries_keys : Cert.Pre_finite_queries_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Cache (m : (ℓ : Loc Cert.Cache.nD Cert.Cache.τ Cert.Cache.sig) → Buf (Elt Bits) ℓ) : Prop :=
  True

def Pre_CacheIdeal (m : (ℓ : Loc Cert.CacheIdeal.nD Cert.CacheIdeal.τ Cert.CacheIdeal.sig) → Buf (Elt Ideal) ℓ) : Prop :=
  True

def Pre_CacheRefIdeal (m : (ℓ : Loc Cert.CacheRefIdeal.nD Cert.CacheRefIdeal.τ Cert.CacheRefIdeal.sig) → Buf (Elt Ideal) ℓ) : Prop :=
  True

def Pre_Fourier (m : (ℓ : Loc Cert.Fourier.nD Cert.Fourier.τ Cert.Fourier.sig) → Buf (Elt Bits) ℓ) : Prop :=
  True

def Pre_FourierIdeal (m : (ℓ : Loc Cert.FourierIdeal.nD Cert.FourierIdeal.τ Cert.FourierIdeal.sig) → Buf (Elt Ideal) ℓ) : Prop :=
  True

def Pre_FourierRefIdeal (m : (ℓ : Loc Cert.FourierRefIdeal.nD Cert.FourierRefIdeal.τ Cert.FourierRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_queries_keys [hKernelIdeal : Cert.KernelIdeal.Facts] [hPre_finite_queries_keys : Cert.Pre_finite_queries_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_queries_keys [hReferenceIdeal : Cert.ReferenceIdeal.Facts] [hPre_finite_queries_keys : Cert.Pre_finite_queries_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Cache [hCache : Cert.Cache.Facts] : Prop :=
  ∀ (m : (ℓ : Loc Cert.Cache.nD Cert.Cache.τ Cert.Cache.sig) → Buf (Elt Bits) ℓ) (g : Dev Cert.Cache.nD → PrngReg), Pre_Cache m →
    θ_run (Cert.Cache.defs (F := Bits)) (onTc (τ := Cert.Cache.τ) (Cert.Cache.main (F := Bits))) ⟨m, fun _ => 0, g⟩ (fun r => (∀ c : Dev Cert.Cache.nD,
      r.2.mem ((c.tc : Thread Cert.Cache.nD Cert.Cache.τ).loc Cert.Cache.main_arg0) = m ((c.tc : Thread Cert.Cache.nD Cert.Cache.τ).loc Cert.Cache.main_arg0)
      ∧ r.2.mem ((c.tc : Thread Cert.Cache.nD Cert.Cache.τ).loc Cert.Cache.main_arg1) = m ((c.tc : Thread Cert.Cache.nD Cert.Cache.τ).loc Cert.Cache.main_arg1)
      ∧ r.2.mem ((c.tc : Thread Cert.Cache.nD Cert.Cache.τ).loc Cert.Cache.main_arg2) = m ((c.tc : Thread Cert.Cache.nD Cert.Cache.τ).loc Cert.Cache.main_arg2)
      ∧ r.2.mem ((c.tc : Thread Cert.Cache.nD Cert.Cache.τ).loc Cert.Cache.main_arg3) = m ((c.tc : Thread Cert.Cache.nD Cert.Cache.τ).loc Cert.Cache.main_arg3)
      ∧ r.2.mem ((c.tc : Thread Cert.Cache.nD Cert.Cache.τ).loc Cert.Cache.main_arg4) = m ((c.tc : Thread Cert.Cache.nD Cert.Cache.τ).loc Cert.Cache.main_arg4)
      ∧ r.2.mem ((c.tc : Thread Cert.Cache.nD Cert.Cache.τ).loc Cert.Cache.main_arg5) = m ((c.tc : Thread Cert.Cache.nD Cert.Cache.τ).loc Cert.Cache.main_arg5)
      ∧ r.2.mem ((c.tc : Thread Cert.Cache.nD Cert.Cache.τ).loc Cert.Cache.main_arg6) = m ((c.tc : Thread Cert.Cache.nD Cert.Cache.τ).loc Cert.Cache.main_arg6))
      ∧ r.2.sem = fun _ => 0)

def quiescent_CacheIdeal [hCacheIdeal : Cert.CacheIdeal.Facts] : Prop :=
  ∀ (m : (ℓ : Loc Cert.CacheIdeal.nD Cert.CacheIdeal.τ Cert.CacheIdeal.sig) → Buf (Elt Ideal) ℓ) (g : Dev Cert.CacheIdeal.nD → PrngReg), Pre_CacheIdeal m →
    θ_run (Cert.CacheIdeal.defs (F := Ideal)) (onTc (τ := Cert.CacheIdeal.τ) (Cert.CacheIdeal.main (F := Ideal))) ⟨m, fun _ => 0, g⟩ (fun r => (∀ c : Dev Cert.CacheIdeal.nD,
      r.2.mem ((c.tc : Thread Cert.CacheIdeal.nD Cert.CacheIdeal.τ).loc Cert.CacheIdeal.main_arg0) = m ((c.tc : Thread Cert.CacheIdeal.nD Cert.CacheIdeal.τ).loc Cert.CacheIdeal.main_arg0)
      ∧ r.2.mem ((c.tc : Thread Cert.CacheIdeal.nD Cert.CacheIdeal.τ).loc Cert.CacheIdeal.main_arg1) = m ((c.tc : Thread Cert.CacheIdeal.nD Cert.CacheIdeal.τ).loc Cert.CacheIdeal.main_arg1)
      ∧ r.2.mem ((c.tc : Thread Cert.CacheIdeal.nD Cert.CacheIdeal.τ).loc Cert.CacheIdeal.main_arg2) = m ((c.tc : Thread Cert.CacheIdeal.nD Cert.CacheIdeal.τ).loc Cert.CacheIdeal.main_arg2)
      ∧ r.2.mem ((c.tc : Thread Cert.CacheIdeal.nD Cert.CacheIdeal.τ).loc Cert.CacheIdeal.main_arg3) = m ((c.tc : Thread Cert.CacheIdeal.nD Cert.CacheIdeal.τ).loc Cert.CacheIdeal.main_arg3)
      ∧ r.2.mem ((c.tc : Thread Cert.CacheIdeal.nD Cert.CacheIdeal.τ).loc Cert.CacheIdeal.main_arg4) = m ((c.tc : Thread Cert.CacheIdeal.nD Cert.CacheIdeal.τ).loc Cert.CacheIdeal.main_arg4)
      ∧ r.2.mem ((c.tc : Thread Cert.CacheIdeal.nD Cert.CacheIdeal.τ).loc Cert.CacheIdeal.main_arg5) = m ((c.tc : Thread Cert.CacheIdeal.nD Cert.CacheIdeal.τ).loc Cert.CacheIdeal.main_arg5)
      ∧ r.2.mem ((c.tc : Thread Cert.CacheIdeal.nD Cert.CacheIdeal.τ).loc Cert.CacheIdeal.main_arg6) = m ((c.tc : Thread Cert.CacheIdeal.nD Cert.CacheIdeal.τ).loc Cert.CacheIdeal.main_arg6))
      ∧ r.2.sem = fun _ => 0)

def quiescent_CacheRefIdeal [hCacheRefIdeal : Cert.CacheRefIdeal.Facts] : Prop :=
  ∀ (m : (ℓ : Loc Cert.CacheRefIdeal.nD Cert.CacheRefIdeal.τ Cert.CacheRefIdeal.sig) → Buf (Elt Ideal) ℓ) (g : Dev Cert.CacheRefIdeal.nD → PrngReg), Pre_CacheRefIdeal m →
    θ_run (Cert.CacheRefIdeal.defs (F := Ideal)) (onTc (τ := Cert.CacheRefIdeal.τ) (Cert.CacheRefIdeal.main (F := Ideal))) ⟨m, fun _ => 0, g⟩ (fun r => (∀ c : Dev Cert.CacheRefIdeal.nD,
      r.2.mem ((c.tc : Thread Cert.CacheRefIdeal.nD Cert.CacheRefIdeal.τ).loc Cert.CacheRefIdeal.main_arg0) = m ((c.tc : Thread Cert.CacheRefIdeal.nD Cert.CacheRefIdeal.τ).loc Cert.CacheRefIdeal.main_arg0)
      ∧ r.2.mem ((c.tc : Thread Cert.CacheRefIdeal.nD Cert.CacheRefIdeal.τ).loc Cert.CacheRefIdeal.main_arg1) = m ((c.tc : Thread Cert.CacheRefIdeal.nD Cert.CacheRefIdeal.τ).loc Cert.CacheRefIdeal.main_arg1)
      ∧ r.2.mem ((c.tc : Thread Cert.CacheRefIdeal.nD Cert.CacheRefIdeal.τ).loc Cert.CacheRefIdeal.main_arg2) = m ((c.tc : Thread Cert.CacheRefIdeal.nD Cert.CacheRefIdeal.τ).loc Cert.CacheRefIdeal.main_arg2)
      ∧ r.2.mem ((c.tc : Thread Cert.CacheRefIdeal.nD Cert.CacheRefIdeal.τ).loc Cert.CacheRefIdeal.main_arg3) = m ((c.tc : Thread Cert.CacheRefIdeal.nD Cert.CacheRefIdeal.τ).loc Cert.CacheRefIdeal.main_arg3)
      ∧ r.2.mem ((c.tc : Thread Cert.CacheRefIdeal.nD Cert.CacheRefIdeal.τ).loc Cert.CacheRefIdeal.main_arg4) = m ((c.tc : Thread Cert.CacheRefIdeal.nD Cert.CacheRefIdeal.τ).loc Cert.CacheRefIdeal.main_arg4)
      ∧ r.2.mem ((c.tc : Thread Cert.CacheRefIdeal.nD Cert.CacheRefIdeal.τ).loc Cert.CacheRefIdeal.main_arg5) = m ((c.tc : Thread Cert.CacheRefIdeal.nD Cert.CacheRefIdeal.τ).loc Cert.CacheRefIdeal.main_arg5)
      ∧ r.2.mem ((c.tc : Thread Cert.CacheRefIdeal.nD Cert.CacheRefIdeal.τ).loc Cert.CacheRefIdeal.main_arg6) = m ((c.tc : Thread Cert.CacheRefIdeal.nD Cert.CacheRefIdeal.τ).loc Cert.CacheRefIdeal.main_arg6))
      ∧ r.2.sem = fun _ => 0)

def quiescent_Fourier [hFourier : Cert.Fourier.Facts] : Prop :=
  ∀ (m : (ℓ : Loc Cert.Fourier.nD Cert.Fourier.τ Cert.Fourier.sig) → Buf (Elt Bits) ℓ) (g : Dev Cert.Fourier.nD → PrngReg), Pre_Fourier m →
    θ_run (Cert.Fourier.defs (F := Bits)) (onTc (τ := Cert.Fourier.τ) (Cert.Fourier.main (F := Bits))) ⟨m, fun _ => 0, g⟩ (fun r => (∀ c : Dev Cert.Fourier.nD,
      r.2.mem ((c.tc : Thread Cert.Fourier.nD Cert.Fourier.τ).loc Cert.Fourier.main_arg0) = m ((c.tc : Thread Cert.Fourier.nD Cert.Fourier.τ).loc Cert.Fourier.main_arg0)
      ∧ r.2.mem ((c.tc : Thread Cert.Fourier.nD Cert.Fourier.τ).loc Cert.Fourier.main_arg1) = m ((c.tc : Thread Cert.Fourier.nD Cert.Fourier.τ).loc Cert.Fourier.main_arg1)
      ∧ r.2.mem ((c.tc : Thread Cert.Fourier.nD Cert.Fourier.τ).loc Cert.Fourier.main_arg2) = m ((c.tc : Thread Cert.Fourier.nD Cert.Fourier.τ).loc Cert.Fourier.main_arg2)
      ∧ r.2.mem ((c.tc : Thread Cert.Fourier.nD Cert.Fourier.τ).loc Cert.Fourier.main_arg3) = m ((c.tc : Thread Cert.Fourier.nD Cert.Fourier.τ).loc Cert.Fourier.main_arg3)
      ∧ r.2.mem ((c.tc : Thread Cert.Fourier.nD Cert.Fourier.τ).loc Cert.Fourier.main_arg4) = m ((c.tc : Thread Cert.Fourier.nD Cert.Fourier.τ).loc Cert.Fourier.main_arg4)
      ∧ r.2.mem ((c.tc : Thread Cert.Fourier.nD Cert.Fourier.τ).loc Cert.Fourier.main_arg5) = m ((c.tc : Thread Cert.Fourier.nD Cert.Fourier.τ).loc Cert.Fourier.main_arg5)
      ∧ r.2.mem ((c.tc : Thread Cert.Fourier.nD Cert.Fourier.τ).loc Cert.Fourier.main_arg6) = m ((c.tc : Thread Cert.Fourier.nD Cert.Fourier.τ).loc Cert.Fourier.main_arg6)
      ∧ r.2.mem ((c.tc : Thread Cert.Fourier.nD Cert.Fourier.τ).loc Cert.Fourier.main_arg7) = m ((c.tc : Thread Cert.Fourier.nD Cert.Fourier.τ).loc Cert.Fourier.main_arg7))
      ∧ r.2.sem = fun _ => 0)

def quiescent_FourierIdeal [hFourierIdeal : Cert.FourierIdeal.Facts] : Prop :=
  ∀ (m : (ℓ : Loc Cert.FourierIdeal.nD Cert.FourierIdeal.τ Cert.FourierIdeal.sig) → Buf (Elt Ideal) ℓ) (g : Dev Cert.FourierIdeal.nD → PrngReg), Pre_FourierIdeal m →
    θ_run (Cert.FourierIdeal.defs (F := Ideal)) (onTc (τ := Cert.FourierIdeal.τ) (Cert.FourierIdeal.main (F := Ideal))) ⟨m, fun _ => 0, g⟩ (fun r => (∀ c : Dev Cert.FourierIdeal.nD,
      r.2.mem ((c.tc : Thread Cert.FourierIdeal.nD Cert.FourierIdeal.τ).loc Cert.FourierIdeal.main_arg0) = m ((c.tc : Thread Cert.FourierIdeal.nD Cert.FourierIdeal.τ).loc Cert.FourierIdeal.main_arg0)
      ∧ r.2.mem ((c.tc : Thread Cert.FourierIdeal.nD Cert.FourierIdeal.τ).loc Cert.FourierIdeal.main_arg1) = m ((c.tc : Thread Cert.FourierIdeal.nD Cert.FourierIdeal.τ).loc Cert.FourierIdeal.main_arg1)
      ∧ r.2.mem ((c.tc : Thread Cert.FourierIdeal.nD Cert.FourierIdeal.τ).loc Cert.FourierIdeal.main_arg2) = m ((c.tc : Thread Cert.FourierIdeal.nD Cert.FourierIdeal.τ).loc Cert.FourierIdeal.main_arg2)
      ∧ r.2.mem ((c.tc : Thread Cert.FourierIdeal.nD Cert.FourierIdeal.τ).loc Cert.FourierIdeal.main_arg3) = m ((c.tc : Thread Cert.FourierIdeal.nD Cert.FourierIdeal.τ).loc Cert.FourierIdeal.main_arg3)
      ∧ r.2.mem ((c.tc : Thread Cert.FourierIdeal.nD Cert.FourierIdeal.τ).loc Cert.FourierIdeal.main_arg4) = m ((c.tc : Thread Cert.FourierIdeal.nD Cert.FourierIdeal.τ).loc Cert.FourierIdeal.main_arg4)
      ∧ r.2.mem ((c.tc : Thread Cert.FourierIdeal.nD Cert.FourierIdeal.τ).loc Cert.FourierIdeal.main_arg5) = m ((c.tc : Thread Cert.FourierIdeal.nD Cert.FourierIdeal.τ).loc Cert.FourierIdeal.main_arg5)
      ∧ r.2.mem ((c.tc : Thread Cert.FourierIdeal.nD Cert.FourierIdeal.τ).loc Cert.FourierIdeal.main_arg6) = m ((c.tc : Thread Cert.FourierIdeal.nD Cert.FourierIdeal.τ).loc Cert.FourierIdeal.main_arg6)
      ∧ r.2.mem ((c.tc : Thread Cert.FourierIdeal.nD Cert.FourierIdeal.τ).loc Cert.FourierIdeal.main_arg7) = m ((c.tc : Thread Cert.FourierIdeal.nD Cert.FourierIdeal.τ).loc Cert.FourierIdeal.main_arg7))
      ∧ r.2.sem = fun _ => 0)

def quiescent_FourierRefIdeal [hFourierRefIdeal : Cert.FourierRefIdeal.Facts] : Prop :=
  ∀ (m : (ℓ : Loc Cert.FourierRefIdeal.nD Cert.FourierRefIdeal.τ Cert.FourierRefIdeal.sig) → Buf (Elt Ideal) ℓ) (g : Dev Cert.FourierRefIdeal.nD → PrngReg), Pre_FourierRefIdeal m →
    θ_run (Cert.FourierRefIdeal.defs (F := Ideal)) (onTc (τ := Cert.FourierRefIdeal.τ) (Cert.FourierRefIdeal.main (F := Ideal))) ⟨m, fun _ => 0, g⟩ (fun r => (∀ c : Dev Cert.FourierRefIdeal.nD,
      r.2.mem ((c.tc : Thread Cert.FourierRefIdeal.nD Cert.FourierRefIdeal.τ).loc Cert.FourierRefIdeal.main_arg0) = m ((c.tc : Thread Cert.FourierRefIdeal.nD Cert.FourierRefIdeal.τ).loc Cert.FourierRefIdeal.main_arg0)
      ∧ r.2.mem ((c.tc : Thread Cert.FourierRefIdeal.nD Cert.FourierRefIdeal.τ).loc Cert.FourierRefIdeal.main_arg1) = m ((c.tc : Thread Cert.FourierRefIdeal.nD Cert.FourierRefIdeal.τ).loc Cert.FourierRefIdeal.main_arg1)
      ∧ r.2.mem ((c.tc : Thread Cert.FourierRefIdeal.nD Cert.FourierRefIdeal.τ).loc Cert.FourierRefIdeal.main_arg2) = m ((c.tc : Thread Cert.FourierRefIdeal.nD Cert.FourierRefIdeal.τ).loc Cert.FourierRefIdeal.main_arg2)
      ∧ r.2.mem ((c.tc : Thread Cert.FourierRefIdeal.nD Cert.FourierRefIdeal.τ).loc Cert.FourierRefIdeal.main_arg3) = m ((c.tc : Thread Cert.FourierRefIdeal.nD Cert.FourierRefIdeal.τ).loc Cert.FourierRefIdeal.main_arg3)
      ∧ r.2.mem ((c.tc : Thread Cert.FourierRefIdeal.nD Cert.FourierRefIdeal.τ).loc Cert.FourierRefIdeal.main_arg4) = m ((c.tc : Thread Cert.FourierRefIdeal.nD Cert.FourierRefIdeal.τ).loc Cert.FourierRefIdeal.main_arg4)
      ∧ r.2.mem ((c.tc : Thread Cert.FourierRefIdeal.nD Cert.FourierRefIdeal.τ).loc Cert.FourierRefIdeal.main_arg5) = m ((c.tc : Thread Cert.FourierRefIdeal.nD Cert.FourierRefIdeal.τ).loc Cert.FourierRefIdeal.main_arg5)
      ∧ r.2.mem ((c.tc : Thread Cert.FourierRefIdeal.nD Cert.FourierRefIdeal.τ).loc Cert.FourierRefIdeal.main_arg6) = m ((c.tc : Thread Cert.FourierRefIdeal.nD Cert.FourierRefIdeal.τ).loc Cert.FourierRefIdeal.main_arg6)
      ∧ r.2.mem ((c.tc : Thread Cert.FourierRefIdeal.nD Cert.FourierRefIdeal.τ).loc Cert.FourierRefIdeal.main_arg7) = m ((c.tc : Thread Cert.FourierRefIdeal.nD Cert.FourierRefIdeal.τ).loc Cert.FourierRefIdeal.main_arg7))
      ∧ r.2.sem = fun _ => 0)

def preserves_Kernel_KernelIdeal : Prop :=
  True

def algebraic_KernelIdeal_ReferenceIdeal_pre_finite_queries_keys [hKernelIdeal : Cert.KernelIdeal.Facts] [hReferenceIdeal : Cert.ReferenceIdeal.Facts] [hPre_finite_queries_keys : Cert.Pre_finite_queries_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v78) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Cache_CacheIdeal : Prop :=
  True

def algebraic_CacheIdeal_CacheRefIdeal [hCacheIdeal : Cert.CacheIdeal.Facts] [hCacheRefIdeal : Cert.CacheRefIdeal.Facts] : Prop :=
  ∀ (m : (ℓ : Loc Cert.CacheIdeal.nD Cert.CacheIdeal.τ Cert.CacheIdeal.sig) → Buf (Elt Ideal) ℓ) (g : Dev Cert.CacheIdeal.nD → PrngReg)
    (m' : (ℓ : Loc Cert.CacheRefIdeal.nD Cert.CacheRefIdeal.τ Cert.CacheRefIdeal.sig) → Buf (Elt Ideal) ℓ) (g' : Dev Cert.CacheRefIdeal.nD → PrngReg), Pre_CacheIdeal m →
    (∀ c : Dev Cert.CacheIdeal.nD,
      m' ((c.tc : Thread Cert.CacheRefIdeal.nD Cert.CacheRefIdeal.τ).loc Cert.CacheRefIdeal.main_arg0) = m ((c.tc : Thread Cert.CacheIdeal.nD Cert.CacheIdeal.τ).loc Cert.CacheIdeal.main_arg0)
      ∧ m' ((c.tc : Thread Cert.CacheRefIdeal.nD Cert.CacheRefIdeal.τ).loc Cert.CacheRefIdeal.main_arg1) = m ((c.tc : Thread Cert.CacheIdeal.nD Cert.CacheIdeal.τ).loc Cert.CacheIdeal.main_arg1)
      ∧ m' ((c.tc : Thread Cert.CacheRefIdeal.nD Cert.CacheRefIdeal.τ).loc Cert.CacheRefIdeal.main_arg2) = m ((c.tc : Thread Cert.CacheIdeal.nD Cert.CacheIdeal.τ).loc Cert.CacheIdeal.main_arg2)
      ∧ m' ((c.tc : Thread Cert.CacheRefIdeal.nD Cert.CacheRefIdeal.τ).loc Cert.CacheRefIdeal.main_arg3) = m ((c.tc : Thread Cert.CacheIdeal.nD Cert.CacheIdeal.τ).loc Cert.CacheIdeal.main_arg3)
      ∧ m' ((c.tc : Thread Cert.CacheRefIdeal.nD Cert.CacheRefIdeal.τ).loc Cert.CacheRefIdeal.main_arg4) = m ((c.tc : Thread Cert.CacheIdeal.nD Cert.CacheIdeal.τ).loc Cert.CacheIdeal.main_arg4)
      ∧ m' ((c.tc : Thread Cert.CacheRefIdeal.nD Cert.CacheRefIdeal.τ).loc Cert.CacheRefIdeal.main_arg5) = m ((c.tc : Thread Cert.CacheIdeal.nD Cert.CacheIdeal.τ).loc Cert.CacheIdeal.main_arg5)
      ∧ m' ((c.tc : Thread Cert.CacheRefIdeal.nD Cert.CacheRefIdeal.τ).loc Cert.CacheRefIdeal.main_arg6) = m ((c.tc : Thread Cert.CacheIdeal.nD Cert.CacheIdeal.τ).loc Cert.CacheIdeal.main_arg6)) →
    ∃ (v0 : (c : Dev Cert.CacheIdeal.nD) → Buf (Elt Ideal) ((c.tc : Thread Cert.CacheIdeal.nD Cert.CacheIdeal.τ).loc Cert.CacheIdeal.main_v13_0)) (v1 : (c : Dev Cert.CacheIdeal.nD) → Buf (Elt Ideal) ((c.tc : Thread Cert.CacheIdeal.nD Cert.CacheIdeal.τ).loc Cert.CacheIdeal.main_v13_1)) (v2 : (c : Dev Cert.CacheIdeal.nD) → Buf (Elt Ideal) ((c.tc : Thread Cert.CacheIdeal.nD Cert.CacheIdeal.τ).loc Cert.CacheIdeal.main_v13_2)) (v3 : (c : Dev Cert.CacheIdeal.nD) → Buf (Elt Ideal) ((c.tc : Thread Cert.CacheIdeal.nD Cert.CacheIdeal.τ).loc Cert.CacheIdeal.main_v13_3)),
      θ_run (Cert.CacheIdeal.defs (F := Ideal)) (onTc (τ := Cert.CacheIdeal.τ) (Cert.CacheIdeal.main (F := Ideal))) ⟨m, fun _ => 0, g⟩ (fun r => ∀ c : Dev Cert.CacheIdeal.nD,
          r.2.mem ((c.tc : Thread Cert.CacheIdeal.nD Cert.CacheIdeal.τ).loc Cert.CacheIdeal.main_v13_0) = v0 c
          ∧ r.2.mem ((c.tc : Thread Cert.CacheIdeal.nD Cert.CacheIdeal.τ).loc Cert.CacheIdeal.main_v13_1) = v1 c
          ∧ r.2.mem ((c.tc : Thread Cert.CacheIdeal.nD Cert.CacheIdeal.τ).loc Cert.CacheIdeal.main_v13_2) = v2 c
          ∧ r.2.mem ((c.tc : Thread Cert.CacheIdeal.nD Cert.CacheIdeal.τ).loc Cert.CacheIdeal.main_v13_3) = v3 c
          ∧ r.2.mem ((c.tc : Thread Cert.CacheIdeal.nD Cert.CacheIdeal.τ).loc Cert.CacheIdeal.main_arg0) = m ((c.tc : Thread Cert.CacheIdeal.nD Cert.CacheIdeal.τ).loc Cert.CacheIdeal.main_arg0)
          ∧ r.2.mem ((c.tc : Thread Cert.CacheIdeal.nD Cert.CacheIdeal.τ).loc Cert.CacheIdeal.main_arg1) = m ((c.tc : Thread Cert.CacheIdeal.nD Cert.CacheIdeal.τ).loc Cert.CacheIdeal.main_arg1)
          ∧ r.2.mem ((c.tc : Thread Cert.CacheIdeal.nD Cert.CacheIdeal.τ).loc Cert.CacheIdeal.main_arg2) = m ((c.tc : Thread Cert.CacheIdeal.nD Cert.CacheIdeal.τ).loc Cert.CacheIdeal.main_arg2)
          ∧ r.2.mem ((c.tc : Thread Cert.CacheIdeal.nD Cert.CacheIdeal.τ).loc Cert.CacheIdeal.main_arg3) = m ((c.tc : Thread Cert.CacheIdeal.nD Cert.CacheIdeal.τ).loc Cert.CacheIdeal.main_arg3)
          ∧ r.2.mem ((c.tc : Thread Cert.CacheIdeal.nD Cert.CacheIdeal.τ).loc Cert.CacheIdeal.main_arg4) = m ((c.tc : Thread Cert.CacheIdeal.nD Cert.CacheIdeal.τ).loc Cert.CacheIdeal.main_arg4)
          ∧ r.2.mem ((c.tc : Thread Cert.CacheIdeal.nD Cert.CacheIdeal.τ).loc Cert.CacheIdeal.main_arg5) = m ((c.tc : Thread Cert.CacheIdeal.nD Cert.CacheIdeal.τ).loc Cert.CacheIdeal.main_arg5)
          ∧ r.2.mem ((c.tc : Thread Cert.CacheIdeal.nD Cert.CacheIdeal.τ).loc Cert.CacheIdeal.main_arg6) = m ((c.tc : Thread Cert.CacheIdeal.nD Cert.CacheIdeal.τ).loc Cert.CacheIdeal.main_arg6))
      ∧ θ_run (Cert.CacheRefIdeal.defs (F := Ideal)) (onTc (τ := Cert.CacheRefIdeal.τ) (Cert.CacheRefIdeal.main (F := Ideal))) ⟨m', fun _ => 0, g'⟩ (fun r => ∀ c : Dev Cert.CacheRefIdeal.nD,
          r.2.mem ((c.tc : Thread Cert.CacheRefIdeal.nD Cert.CacheRefIdeal.τ).loc Cert.CacheRefIdeal.main_v43) = v0 c
          ∧ r.2.mem ((c.tc : Thread Cert.CacheRefIdeal.nD Cert.CacheRefIdeal.τ).loc Cert.CacheRefIdeal.main_v44) = v1 c
          ∧ r.2.mem ((c.tc : Thread Cert.CacheRefIdeal.nD Cert.CacheRefIdeal.τ).loc Cert.CacheRefIdeal.main_v45) = v2 c
          ∧ r.2.mem ((c.tc : Thread Cert.CacheRefIdeal.nD Cert.CacheRefIdeal.τ).loc Cert.CacheRefIdeal.main_v46) = v3 c
          ∧ r.2.mem ((c.tc : Thread Cert.CacheRefIdeal.nD Cert.CacheRefIdeal.τ).loc Cert.CacheRefIdeal.main_arg0) = m' ((c.tc : Thread Cert.CacheRefIdeal.nD Cert.CacheRefIdeal.τ).loc Cert.CacheRefIdeal.main_arg0)
          ∧ r.2.mem ((c.tc : Thread Cert.CacheRefIdeal.nD Cert.CacheRefIdeal.τ).loc Cert.CacheRefIdeal.main_arg1) = m' ((c.tc : Thread Cert.CacheRefIdeal.nD Cert.CacheRefIdeal.τ).loc Cert.CacheRefIdeal.main_arg1)
          ∧ r.2.mem ((c.tc : Thread Cert.CacheRefIdeal.nD Cert.CacheRefIdeal.τ).loc Cert.CacheRefIdeal.main_arg2) = m' ((c.tc : Thread Cert.CacheRefIdeal.nD Cert.CacheRefIdeal.τ).loc Cert.CacheRefIdeal.main_arg2)
          ∧ r.2.mem ((c.tc : Thread Cert.CacheRefIdeal.nD Cert.CacheRefIdeal.τ).loc Cert.CacheRefIdeal.main_arg3) = m' ((c.tc : Thread Cert.CacheRefIdeal.nD Cert.CacheRefIdeal.τ).loc Cert.CacheRefIdeal.main_arg3)
          ∧ r.2.mem ((c.tc : Thread Cert.CacheRefIdeal.nD Cert.CacheRefIdeal.τ).loc Cert.CacheRefIdeal.main_arg4) = m' ((c.tc : Thread Cert.CacheRefIdeal.nD Cert.CacheRefIdeal.τ).loc Cert.CacheRefIdeal.main_arg4)
          ∧ r.2.mem ((c.tc : Thread Cert.CacheRefIdeal.nD Cert.CacheRefIdeal.τ).loc Cert.CacheRefIdeal.main_arg5) = m' ((c.tc : Thread Cert.CacheRefIdeal.nD Cert.CacheRefIdeal.τ).loc Cert.CacheRefIdeal.main_arg5)
          ∧ r.2.mem ((c.tc : Thread Cert.CacheRefIdeal.nD Cert.CacheRefIdeal.τ).loc Cert.CacheRefIdeal.main_arg6) = m' ((c.tc : Thread Cert.CacheRefIdeal.nD Cert.CacheRefIdeal.τ).loc Cert.CacheRefIdeal.main_arg6))

def preserves_Fourier_FourierIdeal : Prop :=
  True

def algebraic_FourierIdeal_FourierRefIdeal [hFourierIdeal : Cert.FourierIdeal.Facts] [hFourierRefIdeal : Cert.FourierRefIdeal.Facts] : Prop :=
  ∀ (m : (ℓ : Loc Cert.FourierIdeal.nD Cert.FourierIdeal.τ Cert.FourierIdeal.sig) → Buf (Elt Ideal) ℓ) (g : Dev Cert.FourierIdeal.nD → PrngReg)
    (m' : (ℓ : Loc Cert.FourierRefIdeal.nD Cert.FourierRefIdeal.τ Cert.FourierRefIdeal.sig) → Buf (Elt Ideal) ℓ) (g' : Dev Cert.FourierRefIdeal.nD → PrngReg), Pre_FourierIdeal m →
    (∀ c : Dev Cert.FourierIdeal.nD,
      m' ((c.tc : Thread Cert.FourierRefIdeal.nD Cert.FourierRefIdeal.τ).loc Cert.FourierRefIdeal.main_arg0) = m ((c.tc : Thread Cert.FourierIdeal.nD Cert.FourierIdeal.τ).loc Cert.FourierIdeal.main_arg0)
      ∧ m' ((c.tc : Thread Cert.FourierRefIdeal.nD Cert.FourierRefIdeal.τ).loc Cert.FourierRefIdeal.main_arg1) = m ((c.tc : Thread Cert.FourierIdeal.nD Cert.FourierIdeal.τ).loc Cert.FourierIdeal.main_arg1)
      ∧ m' ((c.tc : Thread Cert.FourierRefIdeal.nD Cert.FourierRefIdeal.τ).loc Cert.FourierRefIdeal.main_arg2) = m ((c.tc : Thread Cert.FourierIdeal.nD Cert.FourierIdeal.τ).loc Cert.FourierIdeal.main_arg2)
      ∧ m' ((c.tc : Thread Cert.FourierRefIdeal.nD Cert.FourierRefIdeal.τ).loc Cert.FourierRefIdeal.main_arg3) = m ((c.tc : Thread Cert.FourierIdeal.nD Cert.FourierIdeal.τ).loc Cert.FourierIdeal.main_arg3)
      ∧ m' ((c.tc : Thread Cert.FourierRefIdeal.nD Cert.FourierRefIdeal.τ).loc Cert.FourierRefIdeal.main_arg4) = m ((c.tc : Thread Cert.FourierIdeal.nD Cert.FourierIdeal.τ).loc Cert.FourierIdeal.main_arg4)
      ∧ m' ((c.tc : Thread Cert.FourierRefIdeal.nD Cert.FourierRefIdeal.τ).loc Cert.FourierRefIdeal.main_arg5) = m ((c.tc : Thread Cert.FourierIdeal.nD Cert.FourierIdeal.τ).loc Cert.FourierIdeal.main_arg5)
      ∧ m' ((c.tc : Thread Cert.FourierRefIdeal.nD Cert.FourierRefIdeal.τ).loc Cert.FourierRefIdeal.main_arg6) = m ((c.tc : Thread Cert.FourierIdeal.nD Cert.FourierIdeal.τ).loc Cert.FourierIdeal.main_arg6)
      ∧ m' ((c.tc : Thread Cert.FourierRefIdeal.nD Cert.FourierRefIdeal.τ).loc Cert.FourierRefIdeal.main_arg7) = m ((c.tc : Thread Cert.FourierIdeal.nD Cert.FourierIdeal.τ).loc Cert.FourierIdeal.main_arg7)) →
    ∃ (v0 : (c : Dev Cert.FourierIdeal.nD) → Buf (Elt Ideal) ((c.tc : Thread Cert.FourierIdeal.nD Cert.FourierIdeal.τ).loc Cert.FourierIdeal.main_v7)),
      θ_run (Cert.FourierIdeal.defs (F := Ideal)) (onTc (τ := Cert.FourierIdeal.τ) (Cert.FourierIdeal.main (F := Ideal))) ⟨m, fun _ => 0, g⟩ (fun r => ∀ c : Dev Cert.FourierIdeal.nD,
          r.2.mem ((c.tc : Thread Cert.FourierIdeal.nD Cert.FourierIdeal.τ).loc Cert.FourierIdeal.main_v7) = v0 c
          ∧ r.2.mem ((c.tc : Thread Cert.FourierIdeal.nD Cert.FourierIdeal.τ).loc Cert.FourierIdeal.main_arg0) = m ((c.tc : Thread Cert.FourierIdeal.nD Cert.FourierIdeal.τ).loc Cert.FourierIdeal.main_arg0)
          ∧ r.2.mem ((c.tc : Thread Cert.FourierIdeal.nD Cert.FourierIdeal.τ).loc Cert.FourierIdeal.main_arg1) = m ((c.tc : Thread Cert.FourierIdeal.nD Cert.FourierIdeal.τ).loc Cert.FourierIdeal.main_arg1)
          ∧ r.2.mem ((c.tc : Thread Cert.FourierIdeal.nD Cert.FourierIdeal.τ).loc Cert.FourierIdeal.main_arg2) = m ((c.tc : Thread Cert.FourierIdeal.nD Cert.FourierIdeal.τ).loc Cert.FourierIdeal.main_arg2)
          ∧ r.2.mem ((c.tc : Thread Cert.FourierIdeal.nD Cert.FourierIdeal.τ).loc Cert.FourierIdeal.main_arg3) = m ((c.tc : Thread Cert.FourierIdeal.nD Cert.FourierIdeal.τ).loc Cert.FourierIdeal.main_arg3)
          ∧ r.2.mem ((c.tc : Thread Cert.FourierIdeal.nD Cert.FourierIdeal.τ).loc Cert.FourierIdeal.main_arg4) = m ((c.tc : Thread Cert.FourierIdeal.nD Cert.FourierIdeal.τ).loc Cert.FourierIdeal.main_arg4)
          ∧ r.2.mem ((c.tc : Thread Cert.FourierIdeal.nD Cert.FourierIdeal.τ).loc Cert.FourierIdeal.main_arg5) = m ((c.tc : Thread Cert.FourierIdeal.nD Cert.FourierIdeal.τ).loc Cert.FourierIdeal.main_arg5)
          ∧ r.2.mem ((c.tc : Thread Cert.FourierIdeal.nD Cert.FourierIdeal.τ).loc Cert.FourierIdeal.main_arg6) = m ((c.tc : Thread Cert.FourierIdeal.nD Cert.FourierIdeal.τ).loc Cert.FourierIdeal.main_arg6)
          ∧ r.2.mem ((c.tc : Thread Cert.FourierIdeal.nD Cert.FourierIdeal.τ).loc Cert.FourierIdeal.main_arg7) = m ((c.tc : Thread Cert.FourierIdeal.nD Cert.FourierIdeal.τ).loc Cert.FourierIdeal.main_arg7))
      ∧ θ_run (Cert.FourierRefIdeal.defs (F := Ideal)) (onTc (τ := Cert.FourierRefIdeal.τ) (Cert.FourierRefIdeal.main (F := Ideal))) ⟨m', fun _ => 0, g'⟩ (fun r => ∀ c : Dev Cert.FourierRefIdeal.nD,
          r.2.mem ((c.tc : Thread Cert.FourierRefIdeal.nD Cert.FourierRefIdeal.τ).loc Cert.FourierRefIdeal.main_v59) = v0 c
          ∧ r.2.mem ((c.tc : Thread Cert.FourierRefIdeal.nD Cert.FourierRefIdeal.τ).loc Cert.FourierRefIdeal.main_arg0) = m' ((c.tc : Thread Cert.FourierRefIdeal.nD Cert.FourierRefIdeal.τ).loc Cert.FourierRefIdeal.main_arg0)
          ∧ r.2.mem ((c.tc : Thread Cert.FourierRefIdeal.nD Cert.FourierRefIdeal.τ).loc Cert.FourierRefIdeal.main_arg1) = m' ((c.tc : Thread Cert.FourierRefIdeal.nD Cert.FourierRefIdeal.τ).loc Cert.FourierRefIdeal.main_arg1)
          ∧ r.2.mem ((c.tc : Thread Cert.FourierRefIdeal.nD Cert.FourierRefIdeal.τ).loc Cert.FourierRefIdeal.main_arg2) = m' ((c.tc : Thread Cert.FourierRefIdeal.nD Cert.FourierRefIdeal.τ).loc Cert.FourierRefIdeal.main_arg2)
          ∧ r.2.mem ((c.tc : Thread Cert.FourierRefIdeal.nD Cert.FourierRefIdeal.τ).loc Cert.FourierRefIdeal.main_arg3) = m' ((c.tc : Thread Cert.FourierRefIdeal.nD Cert.FourierRefIdeal.τ).loc Cert.FourierRefIdeal.main_arg3)
          ∧ r.2.mem ((c.tc : Thread Cert.FourierRefIdeal.nD Cert.FourierRefIdeal.τ).loc Cert.FourierRefIdeal.main_arg4) = m' ((c.tc : Thread Cert.FourierRefIdeal.nD Cert.FourierRefIdeal.τ).loc Cert.FourierRefIdeal.main_arg4)
          ∧ r.2.mem ((c.tc : Thread Cert.FourierRefIdeal.nD Cert.FourierRefIdeal.τ).loc Cert.FourierRefIdeal.main_arg5) = m' ((c.tc : Thread Cert.FourierRefIdeal.nD Cert.FourierRefIdeal.τ).loc Cert.FourierRefIdeal.main_arg5)
          ∧ r.2.mem ((c.tc : Thread Cert.FourierRefIdeal.nD Cert.FourierRefIdeal.τ).loc Cert.FourierRefIdeal.main_arg6) = m' ((c.tc : Thread Cert.FourierRefIdeal.nD Cert.FourierRefIdeal.τ).loc Cert.FourierRefIdeal.main_arg6)
          ∧ r.2.mem ((c.tc : Thread Cert.FourierRefIdeal.nD Cert.FourierRefIdeal.τ).loc Cert.FourierRefIdeal.main_arg7) = m' ((c.tc : Thread Cert.FourierRefIdeal.nD Cert.FourierRefIdeal.τ).loc Cert.FourierRefIdeal.main_arg7))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hCache : Cert.Cache.Facts) (hCacheIdeal : Cert.CacheIdeal.Facts) (hCacheRefIdeal : Cert.CacheRefIdeal.Facts) (hFourier : Cert.Fourier.Facts) (hFourierIdeal : Cert.FourierIdeal.Facts) (hFourierRefIdeal : Cert.FourierRefIdeal.Facts) (hPre_finite_queries_keys : Cert.Pre_finite_queries_keys.Facts),
    quiescent_Kernel (hKernel := hKernel)
    ∧ quiescent_KernelIdeal (hKernelIdeal := hKernelIdeal)
    ∧ quiescent_KernelIdeal_pre_finite_queries_keys (hKernelIdeal := hKernelIdeal) (hPre_finite_queries_keys := hPre_finite_queries_keys)
    ∧ quiescent_ReferenceIdeal (hReferenceIdeal := hReferenceIdeal)
    ∧ quiescent_ReferenceIdeal_pre_finite_queries_keys (hReferenceIdeal := hReferenceIdeal) (hPre_finite_queries_keys := hPre_finite_queries_keys)
    ∧ quiescent_Ffn (hFfn := hFfn)
    ∧ quiescent_FfnIdeal (hFfnIdeal := hFfnIdeal)
    ∧ quiescent_FfnRefIdeal (hFfnRefIdeal := hFfnRefIdeal)
    ∧ quiescent_Cache (hCache := hCache)
    ∧ quiescent_CacheIdeal (hCacheIdeal := hCacheIdeal)
    ∧ quiescent_CacheRefIdeal (hCacheRefIdeal := hCacheRefIdeal)
    ∧ quiescent_Fourier (hFourier := hFourier)
    ∧ quiescent_FourierIdeal (hFourierIdeal := hFourierIdeal)
    ∧ quiescent_FourierRefIdeal (hFourierRefIdeal := hFourierRefIdeal)
    ∧ preserves_Kernel_KernelIdeal
    ∧ algebraic_KernelIdeal_ReferenceIdeal_pre_finite_queries_keys (hKernelIdeal := hKernelIdeal) (hReferenceIdeal := hReferenceIdeal) (hPre_finite_queries_keys := hPre_finite_queries_keys)
    ∧ preserves_Ffn_FfnIdeal
    ∧ algebraic_FfnIdeal_FfnRefIdeal (hFfnIdeal := hFfnIdeal) (hFfnRefIdeal := hFfnRefIdeal)
    ∧ preserves_Cache_CacheIdeal
    ∧ algebraic_CacheIdeal_CacheRefIdeal (hCacheIdeal := hCacheIdeal) (hCacheRefIdeal := hCacheRefIdeal)
    ∧ preserves_Fourier_FourierIdeal
    ∧ algebraic_FourierIdeal_FourierRefIdeal (hFourierIdeal := hFourierIdeal) (hFourierRefIdeal := hFourierRefIdeal)
-- ==== Pre_finite_queries_keys.lean ====
abbrev S8192x512 : Shape := ⟨2, ![8192, 512]⟩
abbrev S1x4x64 : Shape := ⟨3, ![1, 4, 64]⟩
abbrev S1x128 : Shape := ⟨2, ![1, 128]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S8192x512 .f32) (main_arg2 : FVec F S8192x512 .f32) (main_arg3 : FVec F S1x4x64 .f32) (main_arg4 : FVec F S1x128 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S8192x512 : Shape := ⟨2, ![8192, 512]⟩
abbrev S1x4x64 : Shape := ⟨3, ![1, 4, 64]⟩
abbrev S1x128 : Shape := ⟨2, ![1, 128]⟩
abbrev S4x64 : Shape := ⟨2, ![4, 64]⟩
abbrev S128 : Shape := ⟨1, ![128]⟩
abbrev S256x128 : Shape := ⟨2, ![256, 128]⟩
abbrev S1x64 : Shape := ⟨2, ![1, 64]⟩
abbrev S1 : Shape := ⟨1, ![1]⟩
abbrev S1x1 : Shape := ⟨2, ![1, 1]⟩
abbrev S256x256 : Shape := ⟨2, ![256, 256]⟩
abbrev S256 : Shape := ⟨1, ![256]⟩
abbrev S256x1 : Shape := ⟨2, ![256, 1]⟩

abbrev nBuf : Space → Nat
  | .hbm => 9
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S1x4x64, .f32⟩
  | .hbm, ⟨4, _⟩ => ⟨S1x128, .f32⟩
  | .hbm, ⟨5, _⟩ => ⟨S4x64, .f32⟩
  | .hbm, ⟨6, _⟩ => ⟨S128, .f32⟩
  | .hbm, ⟨7, _⟩ => ⟨S1x128, .f32⟩
  | .hbm, ⟨8, _⟩ => ⟨S8192x512, .f32⟩
  | .local _ .vmem, ⟨0, _⟩ => ⟨S4x64, .f32⟩
  | .local _ .vmem, ⟨1, _⟩ => ⟨S1x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S8192x512 : Shape := ⟨2, ![8192, 512]⟩
abbrev S1x4x64 : Shape := ⟨3, ![1, 4, 64]⟩
abbrev S1x128 : Shape := ⟨2, ![1, 128]⟩
abbrev S32x256x4x2x64 : Shape := ⟨5, ![32, 256, 4, 2, 64]⟩
abbrev S32x256x4x128 : Shape := ⟨4, ![32, 256, 4, 128]⟩
abbrev S4x64 : Shape := ⟨2, ![4, 64]⟩
abbrev S1x64 : Shape := ⟨2, ![1, 64]⟩
abbrev S64 : Shape := ⟨1, ![64]⟩
abbrev S_ : Shape := ⟨0, ![]⟩
abbrev S32x2x4x256x256 : Shape := ⟨5, ![32, 2, 4, 256, 256]⟩
abbrev S32x2x4x256 : Shape := ⟨4, ![32, 2, 4, 256]⟩
abbrev S32x2x4x256x1 : Shape := ⟨5, ![32, 2, 4, 256, 1]⟩
abbrev S32x1x4x256x256 : Shape := ⟨5, ![32, 1, 4, 256, 256]⟩
abbrev S32x4x256x256 : Shape := ⟨4, ![32, 4, 256, 256]⟩
abbrev S32x4x128x256 : Shape := ⟨4, ![32, 4, 128, 256]⟩
abbrev S128 : Shape := ⟨1, ![128]⟩
abbrev S32x256x4 : Shape := ⟨3, ![32, 256, 4]⟩
abbrev S32x256x4x1 : Shape := ⟨4, ![32, 256, 4, 1]⟩
abbrev S1x1x1x128 : Shape := ⟨4, ![1, 1, 1, 128]⟩

abbrev nBuf : Space → Nat
  | .hbm => 76
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S1x4x64, .f32⟩
  | .hbm, ⟨4, _⟩ => ⟨S1x128, .f32⟩
  | .hbm, ⟨5, _⟩ => ⟨S32x256x4x2x64, .f32⟩
  | .hbm, ⟨6, _⟩ => ⟨S32x256x4x2x64, .f32⟩
  | .hbm, ⟨7, _⟩ => ⟨S32x256x4x128, .f32⟩
  | .hbm, ⟨8, _⟩ => ⟨S4x64, .f32⟩
  | .hbm, ⟨9, _⟩ => ⟨S1x64, .f32⟩
  | .hbm, ⟨10, _⟩ => ⟨S64, .f32⟩
  | .hbm, ⟨11, _⟩ => ⟨S1x64, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1x64, .f32⟩
  | .hbm, ⟨18, _⟩ => ⟨S64, .f32⟩
  | .hbm, ⟨19, _⟩ => ⟨S1x64, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S32x2x4x256x256, .f32⟩
  | .hbm, ⟨29, _⟩ => ⟨S_, .f32⟩
  | .hbm, ⟨30, _⟩ => ⟨S32x2x4x256x256, .f32⟩
  | .hbm, ⟨31, _⟩ => ⟨S32x2x4x256x256, .f32⟩
  | .hbm, ⟨32, _⟩ => ⟨S_, .f32⟩
  | .hbm, ⟨33, _⟩ => ⟨S32x2x4x256, .f32⟩
  | .hbm, ⟨34, _⟩ => ⟨S_, .f32⟩
  | .hbm, ⟨35, _⟩ => ⟨S32x2x4x256, .f32⟩
  | .hbm, ⟨36, _⟩ => ⟨S32x2x4x256, .f32⟩
  | .hbm, ⟨37, _⟩ => ⟨S32x2x4x256x1, .f32⟩
  | .hbm, ⟨38, _⟩ => ⟨S32x2x4x256x256, .f32⟩
  | .hbm, ⟨39, _⟩ => ⟨S32x2x4x256x256, .f32⟩
  | .hbm, ⟨40, _⟩ => ⟨S32x2x4x256x256, .f32⟩
  | .hbm, ⟨41, _⟩ => ⟨S_, .f32⟩
  | .hbm, ⟨42, _⟩ => ⟨S32x2x4x256, .f32⟩
  | .hbm, ⟨43, _⟩ => ⟨S32x2x4x256x1, .f32⟩
  | .hbm, ⟨44, _⟩ => ⟨S32x2x4x256x256, .f32⟩
  | .hbm, ⟨45, _⟩ => ⟨S32x2x4x256x256, .f32⟩
  | .hbm, ⟨46, _⟩ => ⟨S32x1x4x256x256, .f32⟩
  | .hbm, ⟨47, _⟩ => ⟨S32x4x256x256, .f32⟩
  | .hbm, ⟨48, _⟩ => ⟨S32x1x4x256x256, .f32⟩
  | .hbm, ⟨49, _⟩ => ⟨S32x4x256x256, .f32⟩
  | .hbm, ⟨50, _⟩ => ⟨S32x4x256x256, .f32⟩
  | .hbm, ⟨51, _⟩ => ⟨S32x4x256x256, .f32⟩
  | .hbm, ⟨52, _⟩ => ⟨S32x4x256x256, .f32⟩
  | .hbm, ⟨53, _⟩ => ⟨S32x4x128x256, .f32⟩
  | .hbm, ⟨54, _⟩ => ⟨S32x256x4x128, .f32⟩
  | .hbm, ⟨55, _⟩ => ⟨S128, .f32⟩
  | .hbm, ⟨56, _⟩ => ⟨S32x256x4x128, .f32⟩
  | .hbm, ⟨57, _⟩ => ⟨S_, .f32⟩
  | .hbm, ⟨58, _⟩ => ⟨S32x256x4, .f32⟩
  | .hbm, ⟨59, _⟩ => ⟨S32x256x4x1, .f32⟩
  | .hbm, ⟨60, _⟩ => ⟨S_, .f32⟩
  | .hbm, ⟨61, _⟩ => ⟨S32x256x4x1, .f32⟩
  | .hbm, ⟨62, _⟩ => ⟨S32x256x4x1, .f32⟩
  | .hbm, ⟨63, _⟩ => ⟨S_, .f32⟩
  | .hbm, ⟨64, _⟩ => ⟨S32x256x4x1, .f32⟩
  | .hbm, ⟨65, _⟩ => ⟨S32x256x4x1, .f32⟩
  | .hbm, ⟨66, _⟩ => ⟨S32x256x4x1, .f32⟩
  | .hbm, ⟨67, _⟩ => ⟨S32x256x4x128, .f32⟩
  | .hbm, ⟨68, _⟩ => ⟨S32x256x4x128, .f32⟩
  | .hbm, ⟨69, _⟩ => ⟨S1x1x1x128, .f32⟩
  | .hbm, ⟨70, _⟩ => ⟨S32x256x4x128, .f32⟩
  | .hbm, ⟨71, _⟩ => ⟨S32x256x4x128, .f32⟩
  | .hbm, ⟨72, _⟩ => ⟨S_, .f32⟩
  | .hbm, ⟨73, _⟩ => ⟨S32x256x4x128, .f32⟩
  | .hbm, ⟨74, _⟩ => ⟨S32x256x4x128, .f32⟩
  | .hbm, ⟨75, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_6 : Ref sig .tc := ⟨.hbm, 57, rfl⟩
abbrev main_v45 : Ref sig .tc := ⟨.hbm, 58, rfl⟩
abbrev main_v46 : Ref sig .tc := ⟨.hbm, 59, rfl⟩
abbrev main_cst_7 : Ref sig .tc := ⟨.hbm, 60, rfl⟩
abbrev main_v47 : Ref sig .tc := ⟨.hbm, 61, rfl⟩
abbrev main_v48 : Ref sig .tc := ⟨.hbm, 62, rfl⟩
abbrev main_cst_8 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_9 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩

abbrev nD : Nat := 1
abbrev τ : Topo := Topo.v7x

variable {F : FTy → Type} [FloatOps F]
-- ==== Ffn.lean ====
abbrev S32x256x1024 : Shape := ⟨3, ![32, 256, 1024]⟩
abbrev S8x6x1024 : Shape := ⟨3, ![8, 6, 1024]⟩
abbrev S4x1024 : Shape := ⟨2, ![4, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S8192x1024 : Shape := ⟨2, ![8192, 1024]⟩
abbrev S1x2816 : Shape := ⟨2, ![1, 2816]⟩
abbrev S512x1024 : Shape := ⟨2, ![512, 1024]⟩
abbrev S1x6x1024 : Shape := ⟨3, ![1, 6, 1024]⟩
abbrev S1024x256 : Shape := ⟨2, ![1024, 256]⟩
abbrev S3x256 : Shape := ⟨2, ![3, 256]⟩
abbrev S1x256 : Shape := ⟨2, ![1, 256]⟩
abbrev S256x1024 : Shape := ⟨2, ![256, 1024]⟩
abbrev S6x1024 : Shape := ⟨2, ![6, 1024]⟩
abbrev S1x1024 : Shape := ⟨2, ![1, 1024]⟩
abbrev S512 : Shape := ⟨1, ![512]⟩
abbrev S512x1 : Shape := ⟨2, ![512, 1]⟩
abbrev S512x256 : Shape := ⟨2, ![512, 256]⟩

abbrev nBuf : Space → Nat
  | .hbm => 12
  | .vmem => 18
  | .smem => 0
  | _ => 0

abbrev bufTy : (tb : Table) → Fin (tcTables nBuf tb) → BufTy
  | .hbm, ⟨0, _⟩ => ⟨S32x256x1024, .f32⟩
  | .hbm, ⟨1, _⟩ => ⟨S8x6x1024, .f32⟩
  | .hbm, ⟨2, _⟩ => ⟨S4x1024, .f32⟩
  | .hbm, ⟨3, _⟩ => ⟨S1024x5632, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S8192x1024, .f32⟩
  | .hbm, ⟨8, _⟩ => ⟨S1024x5632, .bf16⟩
  | .hbm, ⟨9, _⟩ => ⟨S1x2816, .f32⟩
  | .hbm, ⟨10, _⟩ => ⟨S2816x1024, .bf16⟩
  | .hbm, ⟨11, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S4x1024, .f32⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S3x256, .f32⟩
  | .local _ .vmem, ⟨9, _⟩ => ⟨S3x256, .f32⟩
  | .local _ .vmem, ⟨10, _⟩ => ⟨S1x256, .f32⟩
  | .local _ .vmem, ⟨11, _⟩ => ⟨S1x256, .f32⟩
  | .local _ .vmem, ⟨12, _⟩ => ⟨S256x1024, .bf16⟩
  | .local _ .vmem, ⟨13, _⟩ => ⟨S256x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v76 : BitVec 1 := Scalar.cmpi .eq arg1 c10_i32
  let v77 : BitVec 32 := Scalar.extui v76
  let c0_i32_34 : BitVec 32 := 0#32
  let v78 : BitVec 1 := Scalar.cmpi .ne v77 c0_i32_34
  v78

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnRefIdeal.lean ====
abbrev S32x256x1024 : Shape := ⟨3, ![32, 256, 1024]⟩
abbrev S8x6x1024 : Shape := ⟨3, ![8, 6, 1024]⟩
abbrev S4x1024 : Shape := ⟨2, ![4, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1x6x1024 : Shape := ⟨3, ![1, 6, 1024]⟩
abbrev S6x1024 : Shape := ⟨2, ![6, 1024]⟩
abbrev S1x1x6144 : Shape := ⟨3, ![1, 1, 6144]⟩
abbrev S1x1x1024 : Shape := ⟨3, ![1, 1, 1024]⟩
abbrev S1x1024 : Shape := ⟨2, ![1, 1024]⟩
abbrev S1024 : Shape := ⟨1, ![1024]⟩
abbrev S_ : Shape := ⟨0, ![]⟩
abbrev S32x256 : Shape := ⟨2, ![32, 256]⟩
abbrev S32x256x1 : Shape := ⟨3, ![32, 256, 1]⟩
abbrev S32x256x5632 : Shape := ⟨3, ![32, 256, 5632]⟩
abbrev S32x256x2816 : Shape := ⟨3, ![32, 256, 2816]⟩
abbrev S32x258x2816 : Shape := ⟨3, ![32, 258, 2816]⟩
abbrev S1x2816 : Shape := ⟨2, ![1, 2816]⟩
abbrev S1x1x2816 : Shape := ⟨3, ![1, 1, 2816]⟩
abbrev S8192x1024 : Shape := ⟨2, ![8192, 1024]⟩

abbrev nBuf : Space → Nat
  | .hbm => 103
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S8x6x1024, .f32⟩
  | .hbm, ⟨2, _⟩ => ⟨S4x1024, .f32⟩
  | .hbm, ⟨3, _⟩ => ⟨S1024x5632, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S1x6x1024, .f32⟩
  | .hbm, ⟨8, _⟩ => ⟨S6x1024, .f32⟩
  | .hbm, ⟨9, _⟩ => ⟨S1x1x6144, .f32⟩
  | .hbm, ⟨10, _⟩ => ⟨S1x1x1024, .f32⟩
  | .hbm, ⟨11, _⟩ => ⟨S1x1x1024, .f32⟩
  | .hbm, ⟨12, _⟩ => ⟨S1x1x1024, .f32⟩
  | .hbm, ⟨13, _⟩ => ⟨S1x1x1024, .f32⟩
  | .hbm, ⟨14, _⟩ => ⟨S1x1x1024, .f32⟩
  | .hbm, ⟨15, _⟩ => ⟨S1x1x1024, .f32⟩
  | .hbm, ⟨16, _⟩ => ⟨S1x1024, .f32⟩
  | .hbm, ⟨17, _⟩ => ⟨S1024, .f32⟩
  | .hbm, ⟨18, _⟩ => ⟨S32x256x1024, .f32⟩
  | .hbm, ⟨19, _⟩ => ⟨S_, .f32⟩
  | .hbm, ⟨20, _⟩ => ⟨S32x256, .f32⟩
  | .hbm, ⟨21, _⟩ => ⟨S32x256x1, .f32⟩
  | .hbm, ⟨22, _⟩ => ⟨S_, .f32⟩
  | .hbm, ⟨23, _⟩ => ⟨S32x256x1, .f32⟩
  | .hbm, ⟨24, _⟩ => ⟨S32x256x1, .f32⟩
  | .hbm, ⟨25, _⟩ => ⟨S_, .f32⟩
  | .hbm, ⟨26, _⟩ => ⟨S32x256x1, .f32⟩
  | .hbm, ⟨27, _⟩ => ⟨S32x256x1, .f32⟩
  | .hbm, ⟨28, _⟩ => ⟨S32x256x1, .f32⟩
  | .hbm, ⟨29, _⟩ => ⟨S32x256x1024, .f32⟩
  | .hbm, ⟨30, _⟩ => ⟨S32x256x1024, .f32⟩
  | .hbm, ⟨31, _⟩ => ⟨S1x1x1024, .f32⟩
  | .hbm, ⟨32, _⟩ => ⟨S32x256x1024, .f32⟩
  | .hbm, ⟨33, _⟩ => ⟨S32x256x1024, .f32⟩
  | .hbm, ⟨34, _⟩ => ⟨S_, .f32⟩
  | .hbm, ⟨35, _⟩ => ⟨S1x1x1024, .f32⟩
  | .hbm, ⟨36, _⟩ => ⟨S1x1x1024, .f32⟩
  | .hbm, ⟨37, _⟩ => ⟨S32x256x1024, .f32⟩
  | .hbm, ⟨38, _⟩ => ⟨S32x256x1024, .f32⟩
  | .hbm, ⟨39, _⟩ => ⟨S32x256x1024, .f32⟩
  | .hbm, ⟨40, _⟩ => ⟨S32x256x1024, .f32⟩
  | .hbm, ⟨41, _⟩ => ⟨S32x256x5632, .f32⟩
  | .hbm, ⟨42, _⟩ => ⟨S32x256x2816, .f32⟩
  | .hbm, ⟨43, _⟩ => ⟨S32x256x2816, .f32⟩
  | .hbm, ⟨44, _⟩ => ⟨S_, .i32⟩
  | .hbm, ⟨45, _⟩ => ⟨S_, .f32⟩
  | .hbm, ⟨46, _⟩ => ⟨S32x258x2816, .f32⟩
  | .hbm, ⟨47, _⟩ => ⟨S32x256x2816, .f32⟩
  | .hbm, ⟨48, _⟩ => ⟨S1x2816, .f32⟩
  | .hbm, ⟨49, _⟩ => ⟨S2816, .f32⟩
  | .hbm, ⟨50, _⟩ => ⟨S1x1x2816, .f32⟩
  | .hbm, ⟨51, _⟩ => ⟨S32x256x2816, .f32⟩
  | .hbm, ⟨52, _⟩ => ⟨S32x256x2816, .f32⟩
  | .hbm, ⟨53, _⟩ => ⟨S32x256x2816, .f32⟩
  | .hbm, ⟨54, _⟩ => ⟨S1x2816, .f32⟩
  | .hbm, ⟨55, _⟩ => ⟨S2816, .f32⟩
  | .hbm, ⟨56, _⟩ => ⟨S1x1x2816, .f32⟩
  | .hbm, ⟨57, _⟩ => ⟨S32x256x2816, .f32⟩
  | .hbm, ⟨58, _⟩ => ⟨S32x256x2816, .f32⟩
  | .hbm, ⟨59, _⟩ => ⟨S32x256x2816, .f32⟩
  | .hbm, ⟨60, _⟩ => ⟨S32x256x2816, .f32⟩
  | .hbm, ⟨61, _⟩ => ⟨S1x2816, .f32⟩
  | .hbm, ⟨62, _⟩ => ⟨S2816, .f32⟩
  | .hbm, ⟨63, _⟩ => ⟨S1x1x2816, .f32⟩
  | .hbm, ⟨64, _⟩ => ⟨S32x256x2816, .f32⟩
  | .hbm, ⟨65, _⟩ => ⟨S32x256x2816, .f32⟩
  | .hbm, ⟨66, _⟩ => ⟨S32x256x2816, .f32⟩
  | .hbm, ⟨67, _⟩ => ⟨S1x1x2816, .f32⟩
  | .hbm, ⟨68, _⟩ => ⟨S32x256x2816, .f32⟩
  | .hbm, ⟨69, _⟩ => ⟨S32x256x2816, .f32⟩
  | .hbm, ⟨70, _⟩ => ⟨S32x256x2816, .f32⟩
  | .hbm, ⟨71, _⟩ => ⟨S32x256x2816, .f32⟩
  | .hbm, ⟨72, _⟩ => ⟨S_, .f32⟩
  | .hbm, ⟨73, _⟩ => ⟨S32x256x2816, .f32⟩
  | .hbm, ⟨74, _⟩ => ⟨S32x256x2816, .f32⟩
  | .hbm, ⟨75, _⟩ => ⟨S_, .f32⟩
  | .hbm, ⟨76, _⟩ => ⟨S32x256x2816, .f32⟩
  | .hbm, ⟨77, _⟩ => ⟨S32x256x2816, .f32⟩
  | .hbm, ⟨78, _⟩ => ⟨S32x256x2816, .f32⟩
  | .hbm, ⟨79, _⟩ => ⟨S32x256x2816, .f32⟩
  | .hbm, ⟨80, _⟩ => ⟨S32x256x1024, .f32⟩
  | .hbm, ⟨81, _⟩ => ⟨S1x1024, .f32⟩
  | .hbm, ⟨82, _⟩ => ⟨S1024, .f32⟩
  | .hbm, ⟨83, _⟩ => ⟨S32x256x1024, .f32⟩
  | .hbm, ⟨84, _⟩ => ⟨S_, .f32⟩
  | .hbm, ⟨85, _⟩ => ⟨S32x256, .f32⟩
  | .hbm, ⟨86, _⟩ => ⟨S32x256x1, .f32⟩
  | .hbm, ⟨87, _⟩ => ⟨S_, .f32⟩
  | .hbm, ⟨88, _⟩ => ⟨S32x256x1, .f32⟩
  | .hbm, ⟨89, _⟩ => ⟨S32x256x1, .f32⟩
  | .hbm, ⟨90, _⟩ => ⟨S_, .f32⟩
  | .hbm, ⟨91, _⟩ => ⟨S32x256x1, .f32⟩
  | .hbm, ⟨92, _⟩ => ⟨S32x256x1, .f32⟩
  | .hbm, ⟨93, _⟩ => ⟨S32x256x1, .f32⟩
  | .hbm, ⟨94, _⟩ => ⟨S32x256x1024, .f32⟩
  | .hbm, ⟨95, _⟩ => ⟨S32x256x1024, .f32⟩
  | .hbm, ⟨96, _⟩ => ⟨S1x1x1024, .f32⟩
  | .hbm, ⟨97, _⟩ => ⟨S32x256x1024, .f32⟩
  | .hbm, ⟨98, _⟩ => ⟨S32x256x1024, .f32⟩
  | .hbm, ⟨99, _⟩ => ⟨S32x256x1024, .f32⟩
  | .hbm, ⟨100, _⟩ => ⟨S32x256x1024, .f32⟩
  | .hbm, ⟨101, _⟩ => ⟨S32x256x1024, .f32⟩
  | .hbm, ⟨102, _⟩ => ⟨S8192x1024, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c : Ref sig .tc := ⟨.hbm, 44, rfl⟩
abbrev main_call0_v0 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_call1_v0 : Ref sig .tc := ⟨.hbm, 70, rfl⟩
abbrev main_call1_v1 : Ref sig .tc := ⟨.hbm, 71, rfl⟩
abbrev main_call1_cst : Ref sig .tc := ⟨.hbm, 72, rfl⟩
abbrev main_call1_v2 : Ref sig .tc := ⟨.hbm, 73, rfl⟩
abbrev main_call1_v3 : Ref sig .tc := ⟨.hbm, 74, rfl⟩
abbrev main_call1_cst_0 : Ref sig .tc := ⟨.hbm, 75, rfl⟩
abbrev main_call1_v4 : Ref sig .tc := ⟨.hbm, 76, rfl⟩
abbrev main_call1_v5 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_3 : Ref sig .tc := ⟨.hbm, 84, rfl⟩
abbrev main_v63 : Ref sig .tc := ⟨.hbm, 85, rfl⟩
abbrev main_v64 : Ref sig .tc := ⟨.hbm, 86, rfl⟩
abbrev main_cst_4 : Ref sig .tc := ⟨.hbm, 87, rfl⟩
abbrev main_v65 : Ref sig .tc := ⟨.hbm, 88, rfl⟩
abbrev main_v66 : Ref sig .tc := ⟨.hbm, 89, rfl⟩
abbrev main_cst_5 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩

abbrev nD : Nat := 1
abbrev τ : Topo := Topo.v7x

variable {F : FTy → Type} [FloatOps F]
-- ==== Cache.lean ====
abbrev S32x256x1024 : Shape := ⟨3, ![32, 256, 1024]⟩
abbrev S2x1024 : Shape := ⟨2, ![2, 1024]⟩
abbrev S1024 : Shape := ⟨1, ![1024]⟩
abbrev S2x1024x6144 : Shape := ⟨3, ![2, 1024, 6144]⟩
abbrev S2x6144 : Shape := ⟨2, ![2, 6144]⟩
abbrev S2x4x1024 : Shape := ⟨3, ![2, 4, 1024]⟩
abbrev S1x1024x3456 : Shape := ⟨3, ![1, 1024, 3456]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩
abbrev S2x8x6x1024 : Shape := ⟨4, ![2, 8, 6, 1024]⟩
abbrev S1x8x6x1024 : Shape := ⟨4, ![1, 8, 6, 1024]⟩
abbrev S8x6x1024 : Shape := ⟨3, ![8, 6, 1024]⟩
abbrev S1x4x1024 : Shape := ⟨3, ![1, 4, 1024]⟩
abbrev S4x1024 : Shape := ⟨2, ![4, 1024]⟩
abbrev S8192x1024 : Shape := ⟨2, ![8192, 1024]⟩
abbrev S1024x3456 : Shape := ⟨2, ![1024, 3456]⟩
abbrev S8192x512 : Shape := ⟨2, ![8192, 512]⟩
abbrev S8192x1920 : Shape := ⟨2, ![8192, 1920]⟩
abbrev S256x1024 : Shape := ⟨2, ![256, 1024]⟩
abbrev S1x6x1024 : Shape := ⟨3, ![1, 6, 1024]⟩
abbrev S256x512 : Shape := ⟨2, ![256, 512]⟩
abbrev S256x1920 : Shape := ⟨2, ![256, 1920]⟩
abbrev S6x1024 : Shape := ⟨2, ![6, 1024]⟩
abbrev S256 : Shape := ⟨1, ![256]⟩
abbrev S256x1 : Shape := ⟨2, ![256, 1]⟩
abbrev S1024x512 : Shape := ⟨2, ![1024, 512]⟩
abbrev S1024x1920 : Shape := ⟨2, ![1024, 1920]⟩

abbrev nBuf : Space → Nat
  | .hbm => 25
  | .vmem => 20
  | .smem => 0
  | _ => 0

abbrev bufTy : (tb : Table) → Fin (tcTables nBuf tb) → BufTy
  | .hbm, ⟨0, _⟩ => ⟨S32x256x1024, .f32⟩
  | .hbm, ⟨1, _⟩ => ⟨S2x1024, .f32⟩
  | .hbm, ⟨2, _⟩ => ⟨S1024, .f32⟩
  | .hbm, ⟨3, _⟩ => ⟨S2x1024x6144, .f32⟩
  | .hbm, ⟨4, _⟩ => ⟨S2x6144, .f32⟩
  | .hbm, ⟨5, _⟩ => ⟨S2x4x1024, .f32⟩
  | .hbm, ⟨6, _⟩ => ⟨S1x1024x3456, .f32⟩
  | .hbm, ⟨7, _⟩ => ⟨S1x1024, .f32⟩
  | .hbm, ⟨8, _⟩ => ⟨S_, .f32⟩
  | .hbm, ⟨9, _⟩ => ⟨S5x1024, .f32⟩
  | .hbm, ⟨10, _⟩ => ⟨S8x1024, .f32⟩
  | .hbm, ⟨11, _⟩ => ⟨S2x1x6144, .f32⟩
  | .hbm, ⟨12, _⟩ => ⟨S2x8x6144, .f32⟩
  | .hbm, ⟨13, _⟩ => ⟨S2x8x6x1024, .f32⟩
  | .hbm, ⟨14, _⟩ => ⟨S1x1024x3456, .bf16⟩
  | .hbm, ⟨15, _⟩ => ⟨S1x8x6x1024, .f32⟩
  | .hbm, ⟨16, _⟩ => ⟨S8x6x1024, .f32⟩
  | .hbm, ⟨17, _⟩ => ⟨S1x4x1024, .f32⟩
  | .hbm, ⟨18, _⟩ => ⟨S4x1024, .f32⟩
  | .hbm, ⟨19, _⟩ => ⟨S8192x1024, .f32⟩
  | .hbm, ⟨20, _⟩ => ⟨S1024x3456, .bf16⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S8192x1920, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | .local _ .vmem, ⟨7, _⟩ => ⟨S256x1024, .f32⟩
  | .local _ .vmem, ⟨8, _⟩ => ⟨S256x1024, .f32⟩
  | .local _ .vmem, ⟨9, _⟩ => ⟨S1x6x1024, .f32⟩
  | .local _ .vmem, ⟨10, _⟩ => ⟨S4x1024, .f32⟩
  | .local _ .vmem, ⟨11, _⟩ => ⟨S1024x3456, .bf16⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x1920, .f32⟩
  | .local _ .vmem, ⟨19, _⟩ => ⟨S256x1920, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev main_v13_3 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x6x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x3456 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x1920 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== CacheRefIdeal.lean ====
abbrev S32x256x1024 : Shape := ⟨3, ![32, 256, 1024]⟩
abbrev S2x1024 : Shape := ⟨2, ![2, 1024]⟩
abbrev S1024 : Shape := ⟨1, ![1024]⟩
abbrev S2x1024x6144 : Shape := ⟨3, ![2, 1024, 6144]⟩
abbrev S2x6144 : Shape := ⟨2, ![2, 6144]⟩
abbrev S2x4x1024 : Shape := ⟨3, ![2, 4, 1024]⟩
abbrev S1x1024x3456 : Shape := ⟨3, ![1, 1024, 3456]⟩
abbrev S_ : Shape := ⟨0, ![]⟩
abbrev S1x1024x6144 : Shape := ⟨3, ![1, 1024, 6144]⟩
abbrev S1024x6144 : Shape := ⟨2, ![1024, 6144]⟩
abbrev S6144 : Shape := ⟨1, ![6144]⟩
abbrev S1x6144 : Shape := ⟨2, ![1, 6144]⟩
abbrev S1x1x6144 : Shape := ⟨3, ![1, 1, 6144]⟩
abbrev S1x1x1024 : Shape := ⟨3, ![1, 1, 1024]⟩
abbrev S1x4x1024 : Shape := ⟨3, ![1, 4, 1024]⟩
abbrev S4x1024 : Shape := ⟨2, ![4, 1024]⟩
abbrev S1x1024 : Shape := ⟨2, ![1, 1024]⟩
abbrev S32x256 : Shape := ⟨2, ![32, 256]⟩
abbrev S32x256x1 : Shape := ⟨3, ![32, 256, 1]⟩
abbrev S1024x3456 : Shape := ⟨2, ![1024, 3456]⟩
abbrev S32x256x3456 : Shape := ⟨3, ![32, 256, 3456]⟩
abbrev S32x256x512 : Shape := ⟨3, ![32, 256, 512]⟩
abbrev S32x256x1920 : Shape := ⟨3, ![32, 256, 1920]⟩
abbrev S8192x512 : Shape := ⟨2, ![8192, 512]⟩
abbrev S8192x1920 : Shape := ⟨2, ![8192, 1920]⟩

abbrev nBuf : Space → Nat
  | .hbm => 66
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S2x1024, .f32⟩
  | .hbm, ⟨2, _⟩ => ⟨S1024, .f32⟩
  | .hbm, ⟨3, _⟩ => ⟨S2x1024x6144, .f32⟩
  | .hbm, ⟨4, _⟩ => ⟨S2x6144, .f32⟩
  | .hbm, ⟨5, _⟩ => ⟨S2x4x1024, .f32⟩
  | .hbm, ⟨6, _⟩ => ⟨S1x1024x3456, .f32⟩
  | .hbm, ⟨7, _⟩ => ⟨S1024, .f32⟩
  | .hbm, ⟨8, _⟩ => ⟨S1024, .f32⟩
  | .hbm, ⟨9, _⟩ => ⟨S_, .f32⟩
  | .hbm, ⟨10, _⟩ => ⟨S1024, .f32⟩
  | .hbm, ⟨11, _⟩ => ⟨S1024, .f32⟩
  | .hbm, ⟨12, _⟩ => ⟨S_, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1x1024x6144, .f32⟩
  | .hbm, ⟨17, _⟩ => ⟨S1024x6144, .f32⟩
  | .hbm, ⟨18, _⟩ => ⟨S6144, .f32⟩
  | .hbm, ⟨19, _⟩ => ⟨S1x6144, .f32⟩
  | .hbm, ⟨20, _⟩ => ⟨S6144, .f32⟩
  | .hbm, ⟨21, _⟩ => ⟨S6144, .f32⟩
  | .hbm, ⟨22, _⟩ => ⟨S1x1x6144, .f32⟩
  | .hbm, ⟨23, _⟩ => ⟨S1x1x1024, .f32⟩
  | .hbm, ⟨24, _⟩ => ⟨S1x1x1024, .f32⟩
  | .hbm, ⟨25, _⟩ => ⟨S1x1x1024, .f32⟩
  | .hbm, ⟨26, _⟩ => ⟨S1x1x1024, .f32⟩
  | .hbm, ⟨27, _⟩ => ⟨S1x1x1024, .f32⟩
  | .hbm, ⟨28, _⟩ => ⟨S1x1x1024, .f32⟩
  | .hbm, ⟨29, _⟩ => ⟨S1x4x1024, .f32⟩
  | .hbm, ⟨30, _⟩ => ⟨S4x1024, .f32⟩
  | .hbm, ⟨31, _⟩ => ⟨S1x1024, .f32⟩
  | .hbm, ⟨32, _⟩ => ⟨S1024, .f32⟩
  | .hbm, ⟨33, _⟩ => ⟨S32x256x1024, .f32⟩
  | .hbm, ⟨34, _⟩ => ⟨S_, .f32⟩
  | .hbm, ⟨35, _⟩ => ⟨S32x256, .f32⟩
  | .hbm, ⟨36, _⟩ => ⟨S32x256x1, .f32⟩
  | .hbm, ⟨37, _⟩ => ⟨S_, .f32⟩
  | .hbm, ⟨38, _⟩ => ⟨S32x256x1, .f32⟩
  | .hbm, ⟨39, _⟩ => ⟨S32x256x1, .f32⟩
  | .hbm, ⟨40, _⟩ => ⟨S_, .f32⟩
  | .hbm, ⟨41, _⟩ => ⟨S32x256x1, .f32⟩
  | .hbm, ⟨42, _⟩ => ⟨S32x256x1, .f32⟩
  | .hbm, ⟨43, _⟩ => ⟨S32x256x1, .f32⟩
  | .hbm, ⟨44, _⟩ => ⟨S32x256x1024, .f32⟩
  | .hbm, ⟨45, _⟩ => ⟨S32x256x1024, .f32⟩
  | .hbm, ⟨46, _⟩ => ⟨S1x1x1024, .f32⟩
  | .hbm, ⟨47, _⟩ => ⟨S32x256x1024, .f32⟩
  | .hbm, ⟨48, _⟩ => ⟨S32x256x1024, .f32⟩
  | .hbm, ⟨49, _⟩ => ⟨S_, .f32⟩
  | .hbm, ⟨50, _⟩ => ⟨S1x1x1024, .f32⟩
  | .hbm, ⟨51, _⟩ => ⟨S1x1x1024, .f32⟩
  | .hbm, ⟨52, _⟩ => ⟨S32x256x1024, .f32⟩
  | .hbm, ⟨53, _⟩ => ⟨S32x256x1024, .f32⟩
  | .hbm, ⟨54, _⟩ => ⟨S32x256x1024, .f32⟩
  | .hbm, ⟨55, _⟩ => ⟨S32x256x1024, .f32⟩
  | .hbm, ⟨56, _⟩ => ⟨S1024x3456, .f32⟩
  | .hbm, ⟨57, _⟩ => ⟨S32x256x3456, .f32⟩
  | .hbm, ⟨58, _⟩ => ⟨S32x256x512, .f32⟩
  | .hbm, ⟨59, _⟩ => ⟨S32x256x512, .f32⟩
  | .hbm, ⟨60, _⟩ => ⟨S32x256x512, .f32⟩
  | .hbm, ⟨61, _⟩ => ⟨S32x256x1920, .f32⟩
  | .hbm, ⟨62, _⟩ => ⟨S8192x512, .f32⟩
  | .hbm, ⟨63, _⟩ => ⟨S8192x512, .f32⟩
  | .hbm, ⟨64, _⟩ => ⟨S8192x512, .f32⟩
  | .hbm, ⟨65, _⟩ => ⟨S8192x1920, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst : Ref sig .tc := ⟨.hbm, 34, rfl⟩
abbrev main_v19 : Ref sig .tc := ⟨.hbm, 35, rfl⟩
abbrev main_v20 : Ref sig .tc := ⟨.hbm, 36, rfl⟩
abbrev main_cst_0 : Ref sig .tc := ⟨.hbm, 37, rfl⟩
abbrev main_v21 : Ref sig .tc := ⟨.hbm, 38, rfl⟩
abbrev main_v22 : Ref sig .tc := ⟨.hbm, 39, rfl⟩
abbrev main_cst_1 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_2 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]
-- ==== Fourier.lean ====
abbrev S32x256x1024 : Shape := ⟨3, ![32, 256, 1024]⟩
abbrev S8x6x1024 : Shape := ⟨3, ![8, 6, 1024]⟩
abbrev S4x1024 : Shape := ⟨2, ![4, 1024]⟩
abbrev S128x128 : Shape := ⟨2, ![128, 128]⟩
abbrev S256x256 : Shape := ⟨2, ![256, 256]⟩
abbrev S1x1024x1024 : Shape := ⟨3, ![1, 1024, 1024]⟩
abbrev S8192x1024 : Shape := ⟨2, ![8192, 1024]⟩
abbrev S1024x1024 : Shape := ⟨2, ![1024, 1024]⟩
abbrev S128x256 : Shape := ⟨2, ![128, 256]⟩
abbrev S256x1024 : Shape := ⟨2, ![256, 1024]⟩
abbrev S1x6x1024 : Shape := ⟨3, ![1, 6, 1024]⟩
abbrev S6x1024 : Shape := ⟨2, ![6, 1024]⟩
abbrev S1x1024 : Shape := ⟨2, ![1, 1024]⟩
abbrev S256 : Shape := ⟨1, ![256]⟩
abbrev S256x1 : Shape := ⟨2, ![256, 1]⟩
abbrev S256x128 : Shape := ⟨2, ![256, 128]⟩
abbrev S128x1024 : Shape := ⟨2, ![128, 1024]⟩

abbrev nBuf : Space → Nat
  | .hbm => 16
  | .vmem => 10
  | .smem => 0
  | _ => 0

abbrev bufTy : (tb : Table) → Fin (tcTables nBuf tb) → BufTy
  | .hbm, ⟨0, _⟩ => ⟨S32x256x1024, .f32⟩
  | .hbm, ⟨1, _⟩ => ⟨S8x6x1024, .f32⟩
  | .hbm, ⟨2, _⟩ => ⟨S4x1024, .f32⟩
  | .hbm, ⟨3, _⟩ => ⟨S128x128, .f32⟩
  | .hbm, ⟨4, _⟩ => ⟨S128x128, .f32⟩
  | .hbm, ⟨5, _⟩ => ⟨S256x256, .f32⟩
  | .hbm, ⟨6, _⟩ => ⟨S256x256, .f32⟩
  | .hbm, ⟨7, _⟩ => ⟨S1x1024x1024, .f32⟩
  | .hbm, ⟨8, _⟩ => ⟨S1x1024x1024, .bf16⟩
  | .hbm, ⟨9, _⟩ => ⟨S8192x1024, .f32⟩
  | .hbm, ⟨10, _⟩ => ⟨S1024x1024, .bf16⟩
  | .hbm, ⟨11, _⟩ => ⟨S128x256, .f32⟩
  | .hbm, ⟨12, _⟩ => ⟨S128x256, .bf16⟩
  | .hbm, ⟨13, _⟩ => ⟨S256x256, .bf16⟩
  | .hbm, ⟨14, _⟩ => ⟨S256x256, .bf16⟩
  | .hbm, ⟨15, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S4x1024, .f32⟩
  | .local _ .vmem, ⟨4, _⟩ => ⟨S128x256, .bf16⟩
  | .local _ .vmem, ⟨5, _⟩ => ⟨S256x256, .bf16⟩
  | .local _ .vmem, ⟨6, _⟩ => ⟨S256x256, .bf16⟩
  | .local _ .vmem, ⟨7, _⟩ => ⟨S1024x1024, .bf16⟩
  | .local _ .vmem, ⟨8, _⟩ => ⟨S256x1024, .f32⟩
  | .local _ .vmem, ⟨9, _⟩ => ⟨S256x1024, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FourierRefIdeal.lean ====
abbrev S32x256x1024 : Shape := ⟨3, ![32, 256, 1024]⟩
abbrev S8x6x1024 : Shape := ⟨3, ![8, 6, 1024]⟩
abbrev S4x1024 : Shape := ⟨2, ![4, 1024]⟩
abbrev S128x128 : Shape := ⟨2, ![128, 128]⟩
abbrev S256x256 : Shape := ⟨2, ![256, 256]⟩
abbrev S1x1024x1024 : Shape := ⟨3, ![1, 1024, 1024]⟩
abbrev S1x6x1024 : Shape := ⟨3, ![1, 6, 1024]⟩
abbrev S6x1024 : Shape := ⟨2, ![6, 1024]⟩
abbrev S1x1x6144 : Shape := ⟨3, ![1, 1, 6144]⟩
abbrev S1x1x1024 : Shape := ⟨3, ![1, 1, 1024]⟩
abbrev S1x1024 : Shape := ⟨2, ![1, 1024]⟩
abbrev S1024 : Shape := ⟨1, ![1024]⟩
abbrev S_ : Shape := ⟨0, ![]⟩
abbrev S32x256 : Shape := ⟨2, ![32, 256]⟩
abbrev S32x256x1 : Shape := ⟨3, ![32, 256, 1]⟩
abbrev S32x256x8x128 : Shape := ⟨4, ![32, 256, 8, 128]⟩
abbrev S32x8x128x256 : Shape := ⟨4, ![32, 8, 128, 256]⟩
abbrev S1024x1024 : Shape := ⟨2, ![1024, 1024]⟩
abbrev S8192x1024 : Shape := ⟨2, ![8192, 1024]⟩

abbrev nBuf : Space → Nat
  | .hbm => 75
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S8x6x1024, .f32⟩
  | .hbm, ⟨2, _⟩ => ⟨S4x1024, .f32⟩
  | .hbm, ⟨3, _⟩ => ⟨S128x128, .f32⟩
  | .hbm, ⟨4, _⟩ => ⟨S128x128, .f32⟩
  | .hbm, ⟨5, _⟩ => ⟨S256x256, .f32⟩
  | .hbm, ⟨6, _⟩ => ⟨S256x256, .f32⟩
  | .hbm, ⟨7, _⟩ => ⟨S1x1024x1024, .f32⟩
  | .hbm, ⟨8, _⟩ => ⟨S1x6x1024, .f32⟩
  | .hbm, ⟨9, _⟩ => ⟨S6x1024, .f32⟩
  | .hbm, ⟨10, _⟩ => ⟨S1x1x6144, .f32⟩
  | .hbm, ⟨11, _⟩ => ⟨S1x1x1024, .f32⟩
  | .hbm, ⟨12, _⟩ => ⟨S1x1x1024, .f32⟩
  | .hbm, ⟨13, _⟩ => ⟨S1x1x1024, .f32⟩
  | .hbm, ⟨14, _⟩ => ⟨S1x1x1024, .f32⟩
  | .hbm, ⟨15, _⟩ => ⟨S1x1x1024, .f32⟩
  | .hbm, ⟨16, _⟩ => ⟨S1x1x1024, .f32⟩
  | .hbm, ⟨17, _⟩ => ⟨S1x1024, .f32⟩
  | .hbm, ⟨18, _⟩ => ⟨S1024, .f32⟩
  | .hbm, ⟨19, _⟩ => ⟨S32x256x1024, .f32⟩
  | .hbm, ⟨20, _⟩ => ⟨S_, .f32⟩
  | .hbm, ⟨21, _⟩ => ⟨S32x256, .f32⟩
  | .hbm, ⟨22, _⟩ => ⟨S32x256x1, .f32⟩
  | .hbm, ⟨23, _⟩ => ⟨S_, .f32⟩
  | .hbm, ⟨24, _⟩ => ⟨S32x256x1, .f32⟩
  | .hbm, ⟨25, _⟩ => ⟨S32x256x1, .f32⟩
  | .hbm, ⟨26, _⟩ => ⟨S_, .f32⟩
  | .hbm, ⟨27, _⟩ => ⟨S32x256x1, .f32⟩
  | .hbm, ⟨28, _⟩ => ⟨S32x256x1, .f32⟩
  | .hbm, ⟨29, _⟩ => ⟨S32x256x1, .f32⟩
  | .hbm, ⟨30, _⟩ => ⟨S32x256x1024, .f32⟩
  | .hbm, ⟨31, _⟩ => ⟨S32x256x1024, .f32⟩
  | .hbm, ⟨32, _⟩ => ⟨S1x1x1024, .f32⟩
  | .hbm, ⟨33, _⟩ => ⟨S32x256x1024, .f32⟩
  | .hbm, ⟨34, _⟩ => ⟨S32x256x1024, .f32⟩
  | .hbm, ⟨35, _⟩ => ⟨S_, .f32⟩
  | .hbm, ⟨36, _⟩ => ⟨S1x1x1024, .f32⟩
  | .hbm, ⟨37, _⟩ => ⟨S1x1x1024, .f32⟩
  | .hbm, ⟨38, _⟩ => ⟨S32x256x1024, .f32⟩
  | .hbm, ⟨39, _⟩ => ⟨S32x256x1024, .f32⟩
  | .hbm, ⟨40, _⟩ => ⟨S32x256x1024, .f32⟩
  | .hbm, ⟨41, _⟩ => ⟨S32x256x1024, .f32⟩
  | .hbm, ⟨42, _⟩ => ⟨S32x256x8x128, .f32⟩
  | .hbm, ⟨43, _⟩ => ⟨S32x256x8x128, .f32⟩
  | .hbm, ⟨44, _⟩ => ⟨S32x8x128x256, .f32⟩
  | .hbm, ⟨45, _⟩ => ⟨S32x256x8x128, .f32⟩
  | .hbm, ⟨46, _⟩ => ⟨S32x256x8x128, .f32⟩
  | .hbm, ⟨47, _⟩ => ⟨S32x8x128x256, .f32⟩
  | .hbm, ⟨48, _⟩ => ⟨S32x256x8x128, .f32⟩
  | .hbm, ⟨49, _⟩ => ⟨S32x256x8x128, .f32⟩
  | .hbm, ⟨50, _⟩ => ⟨S32x256x1024, .f32⟩
  | .hbm, ⟨51, _⟩ => ⟨S1024x1024, .f32⟩
  | .hbm, ⟨52, _⟩ => ⟨S32x256x1024, .f32⟩
  | .hbm, ⟨53, _⟩ => ⟨S1x1024, .f32⟩
  | .hbm, ⟨54, _⟩ => ⟨S1024, .f32⟩
  | .hbm, ⟨55, _⟩ => ⟨S32x256x1024, .f32⟩
  | .hbm, ⟨56, _⟩ => ⟨S_, .f32⟩
  | .hbm, ⟨57, _⟩ => ⟨S32x256, .f32⟩
  | .hbm, ⟨58, _⟩ => ⟨S32x256x1, .f32⟩
  | .hbm, ⟨59, _⟩ => ⟨S_, .f32⟩
  | .hbm, ⟨60, _⟩ => ⟨S32x256x1, .f32⟩
  | .hbm, ⟨61, _⟩ => ⟨S32x256x1, .f32⟩
  | .hbm, ⟨62, _⟩ => ⟨S_, .f32⟩
  | .hbm, ⟨63, _⟩ => ⟨S32x256x1, .f32⟩
  | .hbm, ⟨64, _⟩ => ⟨S32x256x1, .f32⟩
  | .hbm, ⟨65, _⟩ => ⟨S32x256x1, .f32⟩
  | .hbm, ⟨66, _⟩ => ⟨S32x256x1024, .f32⟩
  | .hbm, ⟨67, _⟩ => ⟨S32x256x1024, .f32⟩
  | .hbm, ⟨68, _⟩ => ⟨S1x1x1024, .f32⟩
  | .hbm, ⟨69, _⟩ => ⟨S32x256x1024, .f32⟩
  | .hbm, ⟨70, _⟩ => ⟨S32x256x1024, .f32⟩
  | .hbm, ⟨71, _⟩ => ⟨S32x256x1024, .f32⟩
  | .hbm, ⟨72, _⟩ => ⟨S32x256x1024, .f32⟩
  | .hbm, ⟨73, _⟩ => ⟨S32x256x1024, .f32⟩
  | .hbm, ⟨74, _⟩ => ⟨S8192x1024, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_3 : Ref sig .tc := ⟨.hbm, 56, rfl⟩
abbrev main_v44 : Ref sig .tc := ⟨.hbm, 57, rfl⟩
abbrev main_v45 : Ref sig .tc := ⟨.hbm, 58, rfl⟩
abbrev main_cst_4 : Ref sig .tc := ⟨.hbm, 59, rfl⟩
abbrev main_v46 : Ref sig .tc := ⟨.hbm, 60, rfl⟩
abbrev main_v47 : Ref sig .tc := ⟨.hbm, 61, rfl⟩
abbrev main_cst_5 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩

abbrev nD : Nat := 1
abbrev τ : Topo := Topo.v7x

variable {F : FTy → Type} [FloatOps F]
-- ==== Proof.Spec.lean ====
/- The formulas the claims of this problem meet in: the normalised and modulated row every branch of a layer starts
   from, stated over one row of a matrix. A kernel's block and the reference's array are both read down to them. -/
module

public import Idealize.ShloMosaic.Lib.Pointwise
public import Idealize.ShloMosaic.Lib.Pipeline.ValueKit

@[expose] public section

set_option maxRecDepth 16384

noncomputable section

namespace Layer

open Idealize.ShloMosaic

/-- One over the root of the mean square of a row of 1024 entries, the mean raised by the layer's epsilon. -/
def rmsFactor (x : Fin 1024 → EReal) : EReal :=
  Ideal.rsqrt (Ideal.div (∑ k, x k * x k) (Ideal.ofBits .f32 0x44800000#32) + Ideal.ofBits .f32 0x358637BD#32)

/-- A row normalised by its root mean square, weighted by the gains, scaled by one plus `scale` and moved by `shift`. -/
def modNorm (x gain scale shift : Fin 1024 → EReal) (k : Fin 1024) : EReal :=
  x k * rmsFactor x * gain k * (1 + scale k) + shift k

/-- An entry of the modulation: a conditioning vector passed through `y ↦ y · σ(y)`, against a column of the weight, with
    the bias added. -/
def modulation (v w : Fin 1024 → EReal) (b : EReal) : EReal := (∑ k, v k * Ideal.logistic (v k) * w k) + b

/-- One column of a row's gate: the row against a column of the weight. -/
def gate (rows : Fin 256 → Fin 1024 → EReal) (wg : Fin 1024 → EReal) (t : Fin 256) : EReal := ∑ k, rows t k * wg k

/-- The gate one position earlier in its sequence, nothing before the first. -/
def gateBefore (rows : Fin 256 → Fin 1024 → EReal) (wg : Fin 1024 → EReal) (t : Fin 256) : EReal :=
  if h : t.val = 0 then 0 else gate rows wg ⟨t.val - 1, by omega⟩

/-- The gate one position later, nothing after the last. -/
def gateAfter (rows : Fin 256 → Fin 1024 → EReal) (wg : Fin 1024 → EReal) (t : Fin 256) : EReal :=
  if h : t.val = 255 then 0 else gate rows wg ⟨t.val + 1, by omega⟩

/-- One column of the activation: the gate convolved over three neighbouring positions with the taps `c0 c1 c2` and the
    bias `cb`, passed through `y ↦ y · σ(y)`, times the column of the value half. -/
def act (rows : Fin 256 → Fin 1024 → EReal) (wu wg : Fin 1024 → EReal) (c0 c1 c2 cb : EReal) (t : Fin 256) : EReal :=
  (gateBefore rows wg t * c0 + gate rows wg t * c1 + gateAfter rows wg t * c2 + cb)
    * Ideal.logistic (gateBefore rows wg t * c0 + gate rows wg t * c1 + gateAfter rows wg t * c2 + cb) * gate rows wu t

/-- A row closed into the residual: the row plus its gate vector times the normalised, weighted branch. -/
def closed (x gateVec branch gain : Fin 1024 → EReal) (n : Fin 1024) : EReal :=
  x n + gateVec n * (branch n * rmsFactor branch * gain n)

/-- Channel `c` of group `g`, the 1024 channels being eight groups of 128. -/
def chan (g : Fin 8) (c : Fin 128) : Fin 1024 := ⟨g.val * 128 + c.val, by omega⟩

/-- The real part of the two-dimensional transform of one channel group at position `p` and channel `d`: the rows against
    the channel tables `cc sc`, then over the positions against the position tables `cl sl`, cosines less sines. -/
def fourier (rows : Fin 256 → Fin 1024 → EReal) (cc sc : Fin 128 → Fin 128 → EReal) (cl sl : Fin 256 → Fin 256 → EReal)
    (p : Fin 256) (g : Fin 8) (d : Fin 128) : EReal :=
  (∑ t, cl p t * ∑ c, rows t (chan g c) * cc c d) - ∑ t, sl p t * ∑ c, rows t (chan g c) * sc c d

/-- A sum over the channels is a sum over the groups of the sums over a group's channels. -/
theorem sum_chan (f : Fin 1024 → EReal) : ∑ k, f k = ∑ g, ∑ d, f (chan g d) := by
  rw [← Fintype.sum_prod_type', ← (finProdFinEquiv (m := 8) (n := 128)).sum_comp f]
  exact Finset.sum_congr rfl fun x _ => congrArg f (Fin.ext (by show x.2.val + 128 * x.1.val = x.1.val * 128 + x.2.val; omega))

end Layer

end
-- ==== Proof.Cache.lean ====
/- The value of the new cache: the modulation vectors of the first call, taken through the host's slices, modulate the
   rows of the second, and every block the second writes back is a block of the reference's product. -/
module

public import proofs.«01_k».proof.Proof.Spec
public import proofs.«01_k».proof.Proof.Gen.CacheIdeal.Frame
public import proofs.«01_k».proof.Proof.Gen.CacheRefIdeal.Read

@[expose] public section

set_option maxRecDepth 16384

noncomputable section

open Idealize.ShloMosaic Idealize.ShloMosaic.TcCoe Idealize.SL.Sem
open Idealize.ShloMosaic.Pipeline (Dat)

namespace Cert.CacheRefIdeal.Meet

open Cert.CacheRefIdeal Cert.CacheRefIdeal.Gen Cert.CacheRefIdeal.Read

variable (x : FVec Ideal S32x256x1024 .f32) (cx : FVec Ideal S1024 .f32) (wa : FVec Ideal S2x1024x6144 .f32) (ba : FVec Ideal S2x6144 .f32)
  (gains : FVec Ideal S2x4x1024 .f32) (w : FVec Ideal S1x1024x3456 .f32)

/-- The modulation vectors of the even layer for context tokens, end to end: six of 1024 entries. -/
def modVec (n : Fin 6144) : EReal := Layer.modulation (fun k => cx (ix1 k)) (fun k => wa (ix3 0 k n)) (ba (ix2 0 n))

/-- The reference's modulation vectors. -/
theorem modulation (n : Fin 6144) : val_main_v6 (F := Ideal) cx wa ba (ix1 n) = modVec cx wa ba n := by
  pointwise [val_main_v6, val_main_v5, val_main_v4, val_main_v3, val_main_v2, val_main_v1, val_main_v0, val_main_call0_v5, val_main_call0_v4,
    val_main_call0_cst_0, val_main_call0_v3, val_main_call0_v2, val_main_call0_cst, val_main_call0_v1, val_main_call0_v0, modVec, Layer.modulation, Ideal.logistic]

/-- The reference's modulated rows: the first two modulation vectors are the shift and the scale. -/
theorem hidden (b : Fin 32) (t : Fin 256) (k : Fin 1024) :
    val_main_v36 (F := Ideal) x cx wa ba gains (ix3 b t k)
      = Layer.modNorm (fun l => x (ix3 b t l)) (fun l => gains (ix3 0 0 l)) (fun l => modVec cx wa ba ⟨1024 + l, by omega⟩) (fun l => modVec cx wa ba ⟨l, by omega⟩) k := by
  pointwise [val_main_v36, val_main_v35, val_main_v34, val_main_v33, val_main_v32, val_main_v31, val_main_cst_2, val_main_v30,
    val_main_v29, val_main_v28, val_main_v27, val_main_v26, val_main_v25, val_main_v24, val_main_v23, val_main_cst_1,
    val_main_v22, val_main_v21, val_main_cst_0, val_main_v20, val_main_v19, val_main_cst, val_main_v18, val_main_v17, val_main_v16,
    val_main_v15, val_main_v14, val_main_v9, val_main_v8, val_main_v7, modulation, Layer.modNorm, Layer.rmsFactor]

/-- An entry of the reference's product: row `t` of batch `b` against column `n` of the weight. -/
def entry (b : Fin 32) (t : Fin 256) (n : Fin 3456) : EReal :=
  ∑ k : Fin 1024, Layer.modNorm (fun l => x (ix3 b t l)) (fun l => gains (ix3 0 0 l)) (fun l => modVec cx wa ba ⟨1024 + l, by omega⟩)
    (fun l => modVec cx wa ba ⟨l, by omega⟩) k * w (ix3 0 k n)

/-- The reference's product, entry by entry. -/
theorem product (b : Fin 32) (t : Fin 256) (n : Fin 3456) :
    val_main_v38 (F := Ideal) x cx wa ba gains w (ix3 b t n) = entry x cx wa ba gains w b t n := by
  pointwise [val_main_v38, val_main_v37, hidden, entry]

/-- The queries the reference returns. -/
theorem queries (r : Fin 8192) (n : Fin 512) :
    val_main_v43 (F := Ideal) x cx wa ba gains w (ix2 r n)
      = entry x cx wa ba gains w ⟨r / 256, by omega⟩ ⟨r % 256, by omega⟩ ⟨n, by omega⟩ := by
  pointwise [val_main_v43, val_main_v39, product]

/-- The keys. -/
theorem keys (r : Fin 8192) (n : Fin 512) :
    val_main_v44 (F := Ideal) x cx wa ba gains w (ix2 r n)
      = entry x cx wa ba gains w ⟨r / 256, by omega⟩ ⟨r % 256, by omega⟩ ⟨512 + n, by omega⟩ := by
  pointwise [val_main_v44, val_main_v40, product]

/-- The values. -/
theorem values (r : Fin 8192) (n : Fin 512) :
    val_main_v45 (F := Ideal) x cx wa ba gains w (ix2 r n)
      = entry x cx wa ba gains w ⟨r / 256, by omega⟩ ⟨r % 256, by omega⟩ ⟨1024 + n, by omega⟩ := by
  pointwise [val_main_v45, val_main_v41, product]

/-- The columns of the recurrence. -/
theorem columns (r : Fin 8192) (n : Fin 1920) :
    val_main_v46 (F := Ideal) x cx wa ba gains w (ix2 r n)
      = entry x cx wa ba gains w ⟨r / 256, by omega⟩ ⟨r % 256, by omega⟩ ⟨1536 + n, by omega⟩ := by
  pointwise [val_main_v46, val_main_v42, product]

end Cert.CacheRefIdeal.Meet

namespace Cert.CacheIdeal.Meet

open Cert.CacheIdeal Cert.CacheIdeal.Gen

/-- The modulation kernel's payload, row by row of its conditioning vectors. -/
theorem mods (v0 : FVec Ideal S8x1024 .f32) (v10 : FVec Ideal S1x1024x1536 .f32) (v15 : FVec Ideal S1x1x1536 .f32) (r : Fin 8) (n : Fin 1536) :
    k0_pay1 (F := Ideal) v0 v10 v15 (ix3 0 r n) = Layer.modulation (fun k => v0 (ix2 r k)) (fun k => v10 (ix3 0 k n)) (v15 (ix3 0 0 n)) := by
  pointwise [k0_pay1, Layer.modulation, Ideal.logistic]
  simp only [zero_sub]

/-- The projection kernel's modulated rows, in a block of 256 of them. -/
theorem hidden (v0 : FVec Ideal S1x6x1024 .f32) (v2 : FVec Ideal S256x1024 .f32) (v4 : FVec Ideal S1x1024 .f32)
    (r : Fin 256) (k : Fin 1024) :
    k1_pay3 (F := Ideal) v0 v2 v4 (ix2 r k)
      = Layer.modNorm (fun l => v2 (ix2 r l)) (fun l => v4 (ix2 0 l)) (fun l => v0 (ix3 0 1 l)) (fun l => v0 (ix3 0 0 l)) k := by
  pointwise [k1_pay3, Layer.modNorm, Layer.rmsFactor]

variable (m : (ℓ : Loc nD τ sig) → Buf (Elt Ideal) ℓ) (ρ : Dev nD → PrngReg)

/-- Where the modulation's blocks lie: a point is a layer and a quarter of the columns. -/
theorem idx0 : ∀ t : Fin cfg0.N,
    win0_0.index t = ![0, 0] ∧ win0_1.index t = ![t.val / 4, 0, t.val % 4] ∧ win0_2.index t = ![t.val / 4, 0, t.val % 4] ∧ win0_3.index t = ![t.val / 4, 0, t.val % 4] :=
  (by decide +kernel : ∀ t : Fin grid0.N, _)

/-- Where the projection's blocks lie: the rows in steps of 256, the small operands whole. -/
theorem idx1 : ∀ t : Fin cfg1.N,
    win1_0.index t = ![t.val, 0] ∧ win1_1.index t = ![0, 0, 0] ∧ win1_2.index t = ![0, 0] ∧ win1_3.index t = ![0, 0]
      ∧ win1_4.index t = ![t.val, 0] ∧ win1_5.index t = ![t.val, 0] ∧ win1_6.index t = ![t.val, 0] ∧ win1_7.index t = ![t.val, 0] :=
  (by decide +kernel : ∀ t : Fin grid1.N, _)

/-- Row 0 of the stacked conditioning vectors is the context's. -/
theorem entered (c : Dev nD) (k : Fin 1024) : V1 m ρ c main_v2 (ix2 0 k) = m ((c.tc : Thread nD τ).loc main_arg2) (ix1 k) := by
  have e : V1 m ρ c main_v2 = concatenate S8x1024 0 [⟨S1x1024, broadcastInDim S1x1024 ![1] bcast_S1024_S1x1024_1 (m ((c.tc : Thread nD τ).loc main_arg2))⟩,
      ⟨S2x1024, m ((c.tc : Thread nD τ).loc main_arg1)⟩, ⟨S5x1024, broadcastInDim S5x1024 ![] bcast_S_S5x1024 (constant (F := Ideal) S_ .f32 0x00000000#32)⟩]
      concatenates_S1x1024_S2x1024_S5x1024_S8x1024_d0 := rfl
  rw [e]
  pointwise

/-- The conditioning vectors the modulation stages. -/
theorem vblock0 (c : Dev nD) (t : Fin cfg0.N) (r : Fin 8) (k : Fin 1024) :
    (show EReal from iblk0 (V1 m ρ) c 0 t (ix2 r k)) = V1 m ρ c main_v2 (ix2 r k) := by
  blk_point [iblk0, idx0 t]

/-- Its weight: a layer's, a quarter of the columns. -/
theorem vblock1 (c : Dev nD) (t : Fin cfg0.N) (k : Fin 1024) (n : Fin 1536) :
    (show EReal from iblk0 (V1 m ρ) c 1 t (ix3 0 k n)) = m ((c.tc : Thread nD τ).loc main_arg3) (ix3 ⟨t.val / 4, by have := t.isLt; have : cfg0.N = 8 := rfl; omega⟩ k ⟨t.val % 4 * 1536 + n, by omega⟩) := by
  blk_point [iblk0, V1, W1, W0, idx0 t]

/-- Its bias. -/
theorem vblock2 (c : Dev nD) (t : Fin cfg0.N) (n : Fin 1536) :
    (show EReal from iblk0 (V1 m ρ) c 2 t (ix3 0 0 n)) = m ((c.tc : Thread nD τ).loc main_arg4) (ix2 ⟨t.val / 4, by have := t.isLt; have : cfg0.N = 8 := rfl; omega⟩ ⟨t.val % 4 * 1536 + n, by omega⟩) := by
  blk_point [iblk0, V1, W1, W0, idx0 t]

/-- The input rows a point of the projection stages. -/
theorem block0 (c : Dev nD) (t : Fin cfg1.N) (r : Fin 256) (k : Fin 1024) :
    (show EReal from iblk1 (V3 m ρ) c 0 t (ix2 r k)) = m ((c.tc : Thread nD τ).loc main_arg0) (ix3 ⟨t.val, t.isLt⟩ r k) := by
  refine Eq.trans ?_ (congrFun (W2_args m ρ c main_arg0 (by decide)) _)
  blk_point [iblk1, V3, W3, idx1 t]

/-- The gains of layer 0. -/
theorem block2 (c : Dev nD) (t : Fin cfg1.N) (a : Fin 4) (k : Fin 1024) :
    (show EReal from iblk1 (V3 m ρ) c 2 t (ix2 a k)) = m ((c.tc : Thread nD τ).loc main_arg5) (ix3 0 a k) := by
  refine Eq.trans ?_ (congrFun (W2_args m ρ c main_arg5 (by decide)) _)
  blk_point [iblk1, V3, W3, idx1 t]

/-- The fused weight. -/
theorem block3 (c : Dev nD) (t : Fin cfg1.N) (k : Fin 1024) (n : Fin 3456) :
    (show EReal from iblk1 (V3 m ρ) c 3 t (ix2 k n)) = m ((c.tc : Thread nD τ).loc main_arg6) (ix3 0 k n) := by
  refine Eq.trans ?_ (congrFun (W2_args m ρ c main_arg6 (by decide)) _)
  blk_point [iblk1, V3, W3, idx1 t]

/-- What the modulation call leaves: every row's vectors in every layer. -/
abbrev made (c : Dev nD) : Buf (Elt Ideal) ((c.tc : Thread nD τ).loc main_v4) := fun i : S2x8x6144.Idx =>
  Layer.modulation (fun k => V1 m ρ c main_v2 (ix2 (i 1) k)) (fun k => m ((c.tc : Thread nD τ).loc main_arg3) (ix3 (i 0) k (i 2))) (m ((c.tc : Thread nD τ).loc main_arg4) (ix2 (i 0) (i 2)))

/-- Where a point of the modulation writes. -/
theorem vplace3 (t : Fin cfg0.N) (r : Fin 8) (n : Fin 1536) :
    ((cfg0.win 3).blk t).view.emb (ix3 0 r n) = ix3 ⟨t.val / 4, by have := t.isLt; have : cfg0.N = 8 := rfl; omega⟩ r ⟨t.val % 4 * 1536 + n, by omega⟩ := by
  blk_ext [idx0 t]

/-- The modulation vectors after the first call. -/
theorem vfinal3 (c : Dev nD) : (dat0 (V1 m ρ) c).arrAt 3 cfg0.N = made m ρ c := by
  refine (dat0 (V1 m ρ) c).arrAt_eq_of_covers 3 _ (by decide +kernel) fun t _ y => ?_
  blk_simp
  rw [after0_3]
  frame_out
  idx_vars y
  obtain rfl : y0 = 0 := Subsingleton.elim _ _
  refine Eq.trans ?_ (congrArg _ (vplace3 t y1 y2)).symm
  rw [mods]
  exact congr (congrArg₂ Layer.modulation (funext fun k => vblock0 m ρ c t y1 k) (funext fun k => vblock1 m ρ c t k y2)) (vblock2 m ρ c t y2)

/-- The modulation vectors it stages are what the first call left in row 0 of layer 0. -/
theorem block1 (c : Dev nD) (t : Fin cfg1.N) (a : Fin 6) (k : Fin 1024) :
    (show EReal from iblk1 (V3 m ρ) c 1 t (ix3 0 a k)) = Cert.CacheRefIdeal.Meet.modVec (m ((c.tc : Thread nD τ).loc main_arg2)) (m ((c.tc : Thread nD τ).loc main_arg3))
      (m ((c.tc : Thread nD τ).loc main_arg4)) ⟨a * 1024 + k, by omega⟩ := by
  refine Eq.trans (b := made m ρ c (ix3 0 0 ⟨a * 1024 + k, by omega⟩)) ?_ ?_
  · refine Eq.trans ?_ (congrFun ((W2_arr m ρ c 3).trans (vfinal3 m ρ c)) _)
    blk_point [iblk1, V3, W3, idx1 t]
  · exact congrArg (fun f => Layer.modulation f _ _) (funext fun k => entered m ρ c k)

/-- A row of the reference's product over the launched arguments, at the row a point's block holds. -/
abbrev entryAt (c : Dev nD) (b : Fin 32) (r : Fin 256) (n : Fin 3456) : EReal :=
  Cert.CacheRefIdeal.Meet.entry (m ((c.tc : Thread nD τ).loc main_arg0)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) b r n

/-- The kernel's sum over the staged blocks is that entry, its row of the result split back into batch and position. -/
theorem sum_blocks (c : Dev nD) (t : Fin cfg1.N) (r : Fin 256) (n : Fin 3456) (h₁ : (t.val * 256 + r.val) / 256 < 32)
    (h₂ : (t.val * 256 + r.val) % 256 < 256) :
    (∑ k : Fin 1024, Layer.modNorm (fun l => iblk1 (V3 m ρ) c 0 t (ix2 r l)) (fun l => iblk1 (V3 m ρ) c 2 t (ix2 0 l))
        (fun l => iblk1 (V3 m ρ) c 1 t (ix3 0 1 l)) (fun l => iblk1 (V3 m ρ) c 1 t (ix3 0 0 l)) k
          * (show EReal from iblk1 (V3 m ρ) c 3 t (ix2 k n)))
      = entryAt m c ⟨(t.val * 256 + r.val) / 256, h₁⟩ ⟨(t.val * 256 + r.val) % 256, h₂⟩ n := by
  rw [show (⟨(t.val * 256 + r.val) / 256, h₁⟩ : Fin 32) = ⟨t.val, t.isLt⟩ from Fin.ext (by show (t.val * 256 + r.val) / 256 = t.val; omega),
    show (⟨(t.val * 256 + r.val) % 256, h₂⟩ : Fin 256) = r from Fin.ext (by show (t.val * 256 + r.val) % 256 = r; omega)]
  refine Finset.sum_congr rfl fun k _ => congrArg₂ (· * ·) ?_ (block3 m ρ c t k n)
  rw [show (fun l => (show EReal from iblk1 (V3 m ρ) c 0 t (ix2 r l))) = _ from funext fun l => block0 m ρ c t r l,
    show (fun l => (show EReal from iblk1 (V3 m ρ) c 2 t (ix2 0 l))) = _ from funext fun l => block2 m ρ c t 0 l,
    show (fun l => (show EReal from iblk1 (V3 m ρ) c 1 t (ix3 0 1 l))) = _ from funext fun l => block1 m ρ c t 1 l,
    show (fun l => (show EReal from iblk1 (V3 m ρ) c 1 t (ix3 0 0 l))) = _ from funext fun l => block1 m ρ c t 0 l]
  refine congrArg₂ (fun s f => Layer.modNorm _ _ s f k) (funext fun l => congrArg _ (Fin.ext ?_)) (funext fun l => congrArg _ (Fin.ext ?_))
  · show 1 * 1024 + l.val = 1024 + l.val
    omega
  · show 0 * 1024 + l.val = l.val
    omega

/-- Row `r` of the block a point writes back is row `256 t + r` of the queries. -/
theorem place4 (t : Fin cfg1.N) (r : Fin 256) (n : Fin 512) :
    ((cfg1.win 4).blk t).view.emb (ix2 r n) = ix2 ⟨t.val * 256 + r, by have := t.isLt; have : cfg1.N = 32 := rfl; omega⟩ n := by
  blk_ext [idx1 t]

/-- The queries after both calls are the reference's. -/
theorem final4 (c : Dev nD) :
    (dat1 (V3 m ρ) c).arrAt 4 cfg1.N
      = Cert.CacheRefIdeal.Read.val_main_v43 (F := Ideal) (m ((c.tc : Thread nD τ).loc main_arg0)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  refine (dat1 (V3 m ρ) c).arrAt_eq_of_covers 4 _ (by decide +kernel) fun t _ y => ?_
  blk_simp
  rw [after1_4]
  frame_out
  idx_vars y
  have ht : t.val < 32 := t.isLt
  refine Eq.trans ?_ (congrArg _ (place4 t y0 y1)).symm
  rw [Cert.CacheRefIdeal.Meet.queries]
  refine Eq.trans ?_ (sum_blocks m ρ c t y0 ⟨y1, by omega⟩ (by omega) (by omega))
  pointwise [k1_pay4, hidden]

/-- Row `r` of the block a point writes back is row `256 t + r` of the keys. -/
theorem place5 (t : Fin cfg1.N) (r : Fin 256) (n : Fin 512) :
    ((cfg1.win 5).blk t).view.emb (ix2 r n) = ix2 ⟨t.val * 256 + r, by have := t.isLt; have : cfg1.N = 32 := rfl; omega⟩ n := by
  blk_ext [idx1 t]

/-- The keys after both calls are the reference's. -/
theorem final5 (c : Dev nD) :
    (dat1 (V3 m ρ) c).arrAt 5 cfg1.N
      = Cert.CacheRefIdeal.Read.val_main_v44 (F := Ideal) (m ((c.tc : Thread nD τ).loc main_arg0)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  refine (dat1 (V3 m ρ) c).arrAt_eq_of_covers 5 _ (by decide +kernel) fun t _ y => ?_
  blk_simp
  rw [after1_5]
  frame_out
  idx_vars y
  have ht : t.val < 32 := t.isLt
  refine Eq.trans ?_ (congrArg _ (place5 t y0 y1)).symm
  rw [Cert.CacheRefIdeal.Meet.keys]
  refine Eq.trans ?_ (sum_blocks m ρ c t y0 ⟨512 + y1, by omega⟩ (by omega) (by omega))
  pointwise [k1_pay5, hidden]

/-- Row `r` of the block a point writes back is row `256 t + r` of the values. -/
theorem place6 (t : Fin cfg1.N) (r : Fin 256) (n : Fin 512) :
    ((cfg1.win 6).blk t).view.emb (ix2 r n) = ix2 ⟨t.val * 256 + r, by have := t.isLt; have : cfg1.N = 32 := rfl; omega⟩ n := by
  blk_ext [idx1 t]

/-- The values after both calls are the reference's. -/
theorem final6 (c : Dev nD) :
    (dat1 (V3 m ρ) c).arrAt 6 cfg1.N
      = Cert.CacheRefIdeal.Read.val_main_v45 (F := Ideal) (m ((c.tc : Thread nD τ).loc main_arg0)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  refine (dat1 (V3 m ρ) c).arrAt_eq_of_covers 6 _ (by decide +kernel) fun t _ y => ?_
  blk_simp
  rw [after1_6]
  frame_out
  idx_vars y
  have ht : t.val < 32 := t.isLt
  refine Eq.trans ?_ (congrArg _ (place6 t y0 y1)).symm
  rw [Cert.CacheRefIdeal.Meet.values]
  refine Eq.trans ?_ (sum_blocks m ρ c t y0 ⟨1024 + y1, by omega⟩ (by omega) (by omega))
  pointwise [k1_pay1, k1_pay6, hidden]

/-- Row `r` of the block a point writes back is row `256 t + r` of the columns of the recurrence. -/
theorem place7 (t : Fin cfg1.N) (r : Fin 256) (n : Fin 1920) :
    ((cfg1.win 7).blk t).view.emb (ix2 r n) = ix2 ⟨t.val * 256 + r, by have := t.isLt; have : cfg1.N = 32 := rfl; omega⟩ n := by
  blk_ext [idx1 t]

/-- The columns of the recurrence after both calls are the reference's. -/
theorem final7 (c : Dev nD) :
    (dat1 (V3 m ρ) c).arrAt 7 cfg1.N
      = Cert.CacheRefIdeal.Read.val_main_v46 (F := Ideal) (m ((c.tc : Thread nD τ).loc main_arg0)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  refine (dat1 (V3 m ρ) c).arrAt_eq_of_covers 7 _ (by decide +kernel) fun t _ y => ?_
  blk_simp
  rw [after1_7]
  frame_out
  idx_vars y
  have ht : t.val < 32 := t.isLt
  refine Eq.trans ?_ (congrArg _ (place7 t y0 y1)).symm
  rw [Cert.CacheRefIdeal.Meet.columns]
  refine Eq.trans ?_ (sum_blocks m ρ c t y0 ⟨1536 + y1, by omega⟩ (by omega) (by omega))
  pointwise [k1_pay2, k1_pay6, hidden]

open Idealize.ShloMosaic.Tactic Idealize.SL Idealize.SL.RA Idealize.SL.BI Idealize.SL.BI.BIBase Idealize.SL.BI.Laws Idealize.SL.ProofMode Idealize.ShloMosaic.Rounds in
set_option backward.isDefEq.respectTransparency.types false in
/-- Both calls run, and every unscoped buffer ends at the contents the two pipelines leave. -/
theorem run : θ_run defs (onTc (τ := τ) (main (F := Ideal))) ⟨m, fun _ => 0, ρ⟩ (fun r => ∀ c : Dev nD, ∀ b ∈ Pipeline.ucRefs τ sig,
    r.2.mem (((c : Thread nD τ)).1, b) = W4 m ρ c b) := by
  refine Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj)) ?_
    (T₀ := fun c => iprop(StableHlo.held (c : Thread nD τ) (Pipeline.ucRefs τ sig) (W0 m ρ c) ∗ R c)) (Tₙ := Tₙ m ρ)
    ⟨fun _ => .rfl, fun _ => .rfl, fun _ => .rfl, fun _ => .rfl, fun _ => .rfl⟩ ?_
    (QY := fun c s => ∀ b ∈ Pipeline.ucRefs τ sig, s.mem (((c : Thread nD τ)).1, b) = W4 m ρ c b) ?_ (fun s h _ => h)
  · iintro Hu
    imodintro
    isplitl [Hu]
    · iapply (show (ownU (initOf (Pipeline.cells cfgs cellOf_inj) (Pipeline.launchToks cfgs cellOf_inj)) : sProp (MT nD τ sig Unit (Elt Ideal) ℕ (UR sig nD τ) ℕ))
        ⊢ BI.own (emb₁ (initOf (Pipeline.cells cfgs cellOf_inj) (Pipeline.launchToks cfgs cellOf_inj))) from .rfl)
      iexact Hu
    iapply (show (BI.emp : sProp (MT nD τ sig Unit (Elt Ideal) ℕ (UR sig nD τ) ℕ)) ⊢ bigSep Finset.univ (fun _ : Dev nD => BI.emp) from by rw [BI.bigSep_emp_const])
    iempintro
  · refine Pipeline.initEach L lv fun c => ?_
    rw [show unscopedBufs c (fun b => m ((c : Thread nD τ).loc b)) = _ from Pipeline.unscopedBufs_held c (W0 m ρ c)]
    iintro ⟨⟨Hh, -, HO, -, Hp, -⟩, -⟩
    imodintro
    isplitl [Hh]
    · iexact Hh
    isplitl [Hp]
    · iexists _
      iexact Hp
    iexists ∅
    iexact HO
  · intro c s'
    iintro ⟨⟨Hh, -⟩, HSI⟩
    unfold StableHlo.held
    imodintro
    iapply (pointsTo_read_all (Pipeline.ucRefs τ sig) (fun b => (((c : Thread nD τ)).1, b)) (W4 m ρ c) s')
    isplitl [Hh] <;> iassumption

/-- The run read at the program's results and arguments: the results are what the second pipeline leaves, the arguments
    as launched. -/
theorem run_results : θ_run defs (onTc (τ := τ) (main (F := Ideal))) ⟨m, fun _ => 0, ρ⟩ (fun r => ∀ c : Dev nD,
      r.2.mem ((c.tc : Thread nD τ).loc main_v13_0) = (dat1 (V3 m ρ) c).arrAt 4 cfg1.N
      ∧ r.2.mem ((c.tc : Thread nD τ).loc main_v13_1) = (dat1 (V3 m ρ) c).arrAt 5 cfg1.N
      ∧ r.2.mem ((c.tc : Thread nD τ).loc main_v13_2) = (dat1 (V3 m ρ) c).arrAt 6 cfg1.N
      ∧ r.2.mem ((c.tc : Thread nD τ).loc main_v13_3) = (dat1 (V3 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_v13_0 (by decide))).trans (W4_arr m ρ c 4),
    (h c _ (mem_uc main_v13_1 (by decide))).trans (W4_arr m ρ c 5),
    (h c _ (mem_uc main_v13_2 (by decide))).trans (W4_arr m ρ c 6),
    (h c _ (mem_uc main_v13_3 (by decide))).trans (W4_arr m ρ c 7),
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c)⟩) (run m ρ)

end Cert.CacheIdeal.Meet
end
-- ==== Proof.Ffn.lean ====
/- The value of the gated convolutional MLP: the kernel keeps the modulated rows of a block in scratch, adds up the
   output projection over eleven column chunks of the gate, and closes with the norm and the residual; the array it
   leaves is the reference's. -/
module

public import Idealize.ShloMosaic.Lib.Pipeline.ReadBack
public import proofs.«01_k».proof.Proof.Spec
public import proofs.«01_k».proof.Proof.Gen.FfnIdeal.Value
public import proofs.«01_k».proof.Proof.Gen.FfnRefIdeal.Read
public import Idealize.ShloMosaic.Lib.Pipeline.ValueKit.Held

@[expose] public section

set_option maxRecDepth 16384

noncomputable section

open Idealize.ShloMosaic Idealize.ShloMosaic.TcCoe Idealize.SL.Sem
open Idealize.ShloMosaic.Pipeline (Dat)

namespace Cert.FfnRefIdeal.Meet

open Cert.FfnRefIdeal Cert.FfnRefIdeal.Gen Cert.FfnRefIdeal.Read

variable (x : FVec Ideal S32x256x1024 .f32) (mod : FVec Ideal S8x6x1024 .f32) (gains : FVec Ideal S4x1024 .f32)
  (w : FVec Ideal S1024x5632 .f32) (cw : FVec Ideal S3x2816 .f32) (cb : FVec Ideal S2816 .f32) (wo : FVec Ideal S2816x1024 .f32)

/-- The three modulation vectors of the branch, in the flattened row the reference splits. -/
theorem shift (k : Fin 1024) : val_main_v6 (F := Ideal) mod (ix3 0 0 k) = mod (ix3 0 3 k) := by
  have hk := k.isLt
  pointwise [val_main_v6, val_main_v2, val_main_v1, val_main_v0]
  exact congrArg mod (congrArg₂ (fun r l => ix3 0 r l) (Fin.ext (by show (3072 + (k : ℕ)) / 1024 = 3; omega)) rfl)

theorem scale (k : Fin 1024) : val_main_v7 (F := Ideal) mod (ix3 0 0 k) = mod (ix3 0 4 k) := by
  have hk := k.isLt
  pointwise [val_main_v7, val_main_v2, val_main_v1, val_main_v0]
  exact congrArg mod (congrArg₂ (fun r l => ix3 0 r l) (Fin.ext (by show (4096 + (k : ℕ)) / 1024 = 4; omega)) rfl)

theorem gateVec (k : Fin 1024) : val_main_v8 (F := Ideal) mod (ix3 0 0 k) = mod (ix3 0 5 k) := by
  have hk := k.isLt
  pointwise [val_main_v8, val_main_v2, val_main_v1, val_main_v0]
  exact congrArg mod (congrArg₂ (fun r l => ix3 0 r l) (Fin.ext (by show (5120 + (k : ℕ)) / 1024 = 5; omega)) rfl)

/-- The modulated rows of a sequence. -/
def rows (b : Fin 32) (t : Fin 256) (k : Fin 1024) : EReal :=
  Layer.modNorm (fun l => x (ix3 b t l)) (fun l => gains (ix2 2 l)) (fun l => mod (ix3 0 4 l)) (fun l => mod (ix3 0 3 l)) k

theorem hidden (b : Fin 32) (t : Fin 256) (k : Fin 1024) : val_main_v29 (F := Ideal) x mod gains (ix3 b t k) = rows x mod gains b t k := by
  pointwise [val_main_v29, val_main_v28, val_main_v27, val_main_v26, val_main_v25, val_main_v24, val_main_cst_2, val_main_v23,
    val_main_v22, val_main_v21, val_main_v20, val_main_v19, val_main_v18, val_main_v17, val_main_v16, val_main_cst_1,
    val_main_v15, val_main_v14, val_main_cst_0, val_main_v13, val_main_v12, val_main_cst, val_main_v11, val_main_v10,
    val_main_v9, shift, scale, rows, Layer.modNorm, Layer.rmsFactor]

/-- The product with the fused input weight. -/
theorem product (b : Fin 32) (t : Fin 256) (n : Fin 5632) :
    val_main_v30 (F := Ideal) x mod gains w (ix3 b t n) = Layer.gate (rows x mod gains b) (fun k => w (ix2 k n)) t := by
  pointwise [val_main_v30, hidden, Layer.gate]

/-- The row before, read from the sequence padded by a zero row at either end. -/
theorem before (h : Fin 256 → Fin 1024 → EReal) (wg : Fin 1024 → EReal) (t : Fin 256) :
    (if p : 1 ≤ (t : ℕ) ∧ (t : ℕ) - 1 < 256 then Layer.gate h wg ⟨(t : ℕ) - 1, p.2⟩
      else FloatOps.sitofp (F := Ideal) .f32 (0#32) : EReal) = Layer.gateBefore h wg t := by
  have ht := t.isLt
  unfold Layer.gateBefore
  by_cases h0 : (t : ℕ) = 0
  · rw [dif_neg (by omega), dif_pos h0]
    show (((0#32 : BitVec 32).toInt : ℝ) : EReal) = 0
    simp
  · rw [dif_pos (by omega), dif_neg h0]

/-- The row after, read from the padded sequence. -/
theorem after (h : Fin 256 → Fin 1024 → EReal) (wg : Fin 1024 → EReal) (t : Fin 256) :
    (if p : 1 ≤ 2 + (t : ℕ) ∧ 2 + (t : ℕ) - 1 < 256 then Layer.gate h wg ⟨2 + (t : ℕ) - 1, p.2⟩
      else FloatOps.sitofp (F := Ideal) .f32 (0#32) : EReal) = Layer.gateAfter h wg t := by
  have ht := t.isLt
  unfold Layer.gateAfter
  by_cases h0 : (t : ℕ) = 255
  · rw [dif_neg (by omega), dif_pos h0]
    show (((0#32 : BitVec 32).toInt : ℝ) : EReal) = 0
    simp
  · rw [dif_pos (by omega), dif_neg h0]
    exact congrArg (Layer.gate h wg) (Fin.ext (by show 2 + (t : ℕ) - 1 = t + 1; omega))

/-- A column of the activation. -/
def column (b : Fin 32) (t : Fin 256) (f : Fin 2816) : EReal :=
  Layer.act (rows x mod gains b) (fun k => w (ix2 k ⟨f, by omega⟩)) (fun k => w (ix2 k ⟨2816 + f, by omega⟩))
    (cw (ix2 0 f)) (cw (ix2 1 f)) (cw (ix2 2 f)) (cb (ix1 f)) t

theorem activation (b' : Fin 32) (t : Fin 256) (f : Fin 2816) :
    val_main_v58 (F := Ideal) x mod gains w cw cb (ix3 b' t f) = column x mod gains w cw cb b' t f := by
  pointwise [val_main_v58, val_main_v57, val_main_call1_v0, val_main_call1_v1, val_main_call1_cst, val_main_call1_v2,
    val_main_call1_v3, val_main_call1_cst_0, val_main_call1_v4, val_main_call1_v5, val_main_v56, val_main_v55, val_main_v54,
    val_main_v53, val_main_v52, val_main_v51, val_main_v50, val_main_v49, val_main_v48, val_main_v47, val_main_v46,
    val_main_v45, val_main_v44, val_main_v43, val_main_v42, val_main_v41, val_main_v40, val_main_v39, val_main_v38,
    val_main_v37, val_main_v36, val_main_v35, val_main_v34, val_main_v33, val_main_call0_v0, val_main_c, val_main_v32,
    val_main_v31, product, column, Layer.act]
  exact congrArg₂ (fun a b : EReal => (a * cw (ix2 0 f)
        + Layer.gate (rows x mod gains b') (fun k => w (ix2 k ⟨2816 + f, by omega⟩)) t * cw (ix2 1 f) + b * cw (ix2 2 f) + cb (ix1 f))
      * Ideal.div 1 (1 + Ideal.exp (-(a * cw (ix2 0 f)
        + Layer.gate (rows x mod gains b') (fun k => w (ix2 k ⟨2816 + f, by omega⟩)) t * cw (ix2 1 f) + b * cw (ix2 2 f) + cb (ix1 f))))
      * Layer.gate (rows x mod gains b') (fun k => w (ix2 k ⟨f, by omega⟩)) t)
    (before (rows x mod gains b') (fun k => w (ix2 k ⟨2816 + f, by omega⟩)) t)
    (after (rows x mod gains b') (fun k => w (ix2 k ⟨2816 + f, by omega⟩)) t)

/-- An entry of the branch's output projection. -/
def branch (b : Fin 32) (t : Fin 256) (n : Fin 1024) : EReal :=
  ∑ f : Fin 2816, column x mod gains w cw cb b t f * wo (ix2 f n)

theorem projection (b : Fin 32) (t : Fin 256) (n : Fin 1024) :
    val_main_v59 (F := Ideal) x mod gains w cw cb wo (ix3 b t n) = branch x mod gains w cw cb wo b t n := by
  pointwise [val_main_v59, activation, branch]

/-- The reference's result. -/
theorem result (r : Fin 8192) (n : Fin 1024) :
    val_main_v78 (F := Ideal) x mod gains w cw cb wo (ix2 r n)
      = Layer.closed (fun l => x (ix3 ⟨r / 256, by omega⟩ ⟨r % 256, by omega⟩ l)) (fun l => mod (ix3 0 5 l))
          (branch x mod gains w cw cb wo ⟨r / 256, by omega⟩ ⟨r % 256, by omega⟩) (fun l => gains (ix2 3 l)) n := by
  pointwise [val_main_v78, val_main_v77, val_main_v76, val_main_v75, val_main_v74, val_main_v73, val_main_v72, val_main_v71,
    val_main_v70, val_main_v69, val_main_v68, val_main_v67, val_main_cst_5, val_main_v66, val_main_v65, val_main_cst_4,
    val_main_v64, val_main_v63, val_main_cst_3, val_main_v62, val_main_v61, val_main_v60, projection, gateVec,
    Layer.closed, Layer.rmsFactor]

end Cert.FfnRefIdeal.Meet

namespace Cert.FfnIdeal.Meet

open Cert.FfnIdeal Cert.FfnIdeal.Gen

/-- A row's place in its sequence of 256. -/
theorem place (r : Fin 512) : k0_pay8 (ix2 r 0) = BitVec.ofNat 32 (r.val % 256) := by
  have h : ∀ r : Fin 512, k0_pay8 (ix2 r 0) = BitVec.ofNat 32 (r.val % 256) := by decide +kernel
  exact h r

/-- Whether a row opens its sequence, as the kernel's mask reads. -/
theorem opens (r : Fin 512) (x : EReal) :
    Scalar.select (IntOp.cmpi CmpIPredicate.eq (BitVec.ofNat 32 (r.val % 256)) 0#32) (0 : EReal) x = if r.val % 256 = 0 then 0 else x := by
  have h : ∀ r : Fin 512, IntOp.cmpi CmpIPredicate.eq (BitVec.ofNat 32 (r.val % 256)) 0#32 = if r.val % 256 = 0 then 1#1 else 0#1 := by
    decide +kernel
  rw [h r]
  split <;> rfl

/-- Whether a row ends it. -/
theorem ends (r : Fin 512) (x : EReal) :
    Scalar.select (IntOp.cmpi CmpIPredicate.eq (BitVec.ofNat 32 (r.val % 256)) 255#32) (0 : EReal) x = if r.val % 256 = 255 then 0 else x := by
  have h : ∀ r : Fin 512, IntOp.cmpi CmpIPredicate.eq (BitVec.ofNat 32 (r.val % 256)) 255#32 = if r.val % 256 = 255 then 1#1 else 0#1 := by
    decide +kernel
  rw [h r]
  split <;> rfl

/-- The rows a block's first point puts in scratch: the modulated rows. -/
theorem hidden (v0 : FVec Ideal S1x6x1024 .f32) (v2 : FVec Ideal S512x1024 .f32) (v4 : FVec Ideal S1x1024 .f32)
    (r : Fin 512) (k : Fin 1024) :
    k0_pay4 (F := Ideal) v0 v2 v4 (ix2 r k)
      = Layer.modNorm (fun l => v2 (ix2 r l)) (fun l => v4 (ix2 0 l)) (fun l => v0 (ix3 0 4 l)) (fun l => v0 (ix3 0 3 l)) k := by
  pointwise [k0_pay4, k0_pay3, Layer.modNorm, Layer.rmsFactor]

/-- Row `t` of sequence `s` of a block of two sequences. -/
abbrev row (s : Fin 2) (t : Fin 256) : Fin 512 := ⟨s.val * 256 + t.val, by omega⟩

/-- One chunk of 256 gate columns: what a point adds to the accumulated projection. -/
theorem chunk (h : FVec Ideal S512x1024 .bf16) (wu wg : FVec Ideal S1024x256 .bf16) (c0 c1 c2 cb : FVec Ideal S1x256 .f32)
    (acc : FVec Ideal S512x1024 .f32) (wo : FVec Ideal S256x1024 .bf16) (s : Fin 2) (t : Fin 256) (n : Fin 1024) :
    k0_pay12 (F := Ideal) (k0_pay6 h wu) (k0_pay7 h wg) k0_pay8 (k0_pay9 h wg) k0_pay10 k0_pay11 c0 c1 c2 cb acc wo (ix2 (row s t) n)
      = acc (ix2 (row s t) n) + ∑ f : Fin 256, Layer.act (fun t k => h (ix2 (row s t) k)) (fun k => wu (ix2 k f)) (fun k => wg (ix2 k f))
          (c0 (ix2 0 f)) (c1 (ix2 0 f)) (c2 (ix2 0 f)) (cb (ix2 0 f)) t * wo (ix2 f n) := by
  pointwise [k0_pay12, k0_pay6, k0_pay7, k0_pay9, k0_pay10, k0_pay11, place]
  refine congrArg (acc _ + ·) (Finset.sum_congr rfl fun f _ => congrArg (· * wo _) ?_)
  have hb : Scalar.select (IntOp.cmpi CmpIPredicate.eq (BitVec.ofNat 32 ((row s t).val % 256)) 0#32) (0 : EReal)
      ((∑ k, h (ix2 ⟨((row s t).val + 512 - 1) % 512, Nat.mod_lt _ (by decide)⟩ k) * wg (ix2 k f)) * c0 (ix2 0 f))
      = Layer.gateBefore (fun t k => h (ix2 (row s t) k)) (fun k => wg (ix2 k f)) t * c0 (ix2 0 f) := by
    rw [opens]
    unfold Layer.gateBefore Layer.gate
    by_cases h0 : t.val = 0
    · rw [if_pos (by show (s.val * 256 + t.val) % 256 = 0; omega), dif_pos h0, zero_mul]
    · rw [if_neg (by show ¬ (s.val * 256 + t.val) % 256 = 0; omega), dif_neg h0]
      exact congrArg (fun r => (∑ k, h (ix2 r k) * wg (ix2 k f)) * c0 (ix2 0 f))
        (Fin.ext (by show (s.val * 256 + t.val + 512 - 1) % 512 = s.val * 256 + (t.val - 1); omega))
  have ha : Scalar.select (IntOp.cmpi CmpIPredicate.eq (BitVec.ofNat 32 ((row s t).val % 256)) 255#32) (0 : EReal)
      ((∑ k, h (ix2 ⟨((row s t).val + 512 - 511) % 512, Nat.mod_lt _ (by decide)⟩ k) * wg (ix2 k f)) * c2 (ix2 0 f))
      = Layer.gateAfter (fun t k => h (ix2 (row s t) k)) (fun k => wg (ix2 k f)) t * c2 (ix2 0 f) := by
    rw [ends]
    unfold Layer.gateAfter Layer.gate
    by_cases h0 : t.val = 255
    · rw [if_pos (by show (s.val * 256 + t.val) % 256 = 255; omega), dif_pos h0, zero_mul]
    · rw [if_neg (by show ¬ (s.val * 256 + t.val) % 256 = 255; omega), dif_neg h0]
      exact congrArg (fun r => (∑ k, h (ix2 r k) * wg (ix2 k f)) * c2 (ix2 0 f))
        (Fin.ext (by show (s.val * 256 + t.val + 512 - 511) % 512 = s.val * 256 + (t.val + 1); omega))
  refine Eq.trans (congrArg₂ (fun a b : EReal => (a + (∑ k, h (ix2 (row s t) k) * wg (ix2 k f)) * c1 (ix2 0 f) + b + cb (ix2 0 f))
    * Ideal.div 1 (1 + Ideal.exp (0 - (a + (∑ k, h (ix2 (row s t) k) * wg (ix2 k f)) * c1 (ix2 0 f) + b + cb (ix2 0 f))))
    * ∑ k, h (ix2 (row s t) k) * wu (ix2 k f)) hb ha) ?_
  rw [sub_eq_add_neg, zero_add]
  rfl

/-- The last point's closing step. -/
theorem closing (v1 : FVec Ideal S1x6x1024 .f32) (x acc : FVec Ideal S512x1024 .f32) (g : FVec Ideal S1x1024 .f32) (r : Fin 512) (n : Fin 1024) :
    k0_pay2 (F := Ideal) (k0_pay3 v1) x acc g (ix2 r n)
      = Layer.closed (fun l => x (ix2 r l)) (fun l => v1 (ix3 0 5 l)) (fun l => acc (ix2 r l)) (fun l => g (ix2 0 l)) n := by
  pointwise [k0_pay2, k0_pay3, Layer.closed, Layer.rmsFactor]

variable (m : (ℓ : Loc nD τ sig) → Buf (Elt Ideal) ℓ)

/-- Where each window's block lies: the rows by the block of two sequences, the weights by the chunk of columns. -/
theorem idx : ∀ t : Fin cfg0.N,
    win0_0.index t = ![t.val / 11, 0] ∧ win0_1.index t = ![0, 0, 0] ∧ win0_2.index t = ![0, 0] ∧ win0_3.index t = ![0, t.val % 11]
      ∧ win0_4.index t = ![0, 11 + t.val % 11] ∧ win0_5.index t = ![0, t.val % 11] ∧ win0_6.index t = ![0, t.val % 11]
      ∧ win0_7.index t = ![t.val % 11, 0] ∧ win0_8.index t = ![t.val / 11, 0] :=
  (by decide +kernel : ∀ t : Fin grid0.N, _)

/-- The sequence a row of a point's block belongs to. -/
abbrev seq (t : Fin cfg0.N) (s : Fin 2) : Fin 32 :=
  ⟨2 * (t.val / 11) + s.val, by have := t.isLt; have : cfg0.N = 176 := rfl; omega⟩

/-- The column of the gate a column of a point's chunk is. -/
abbrev col (t : Fin cfg0.N) (f : Fin 256) : Fin 2816 := ⟨t.val % 11 * 256 + f.val, by omega⟩

theorem block0 (c : Dev nD) (t : Fin cfg0.N) (s : Fin 2) (r : Fin 256) (k : Fin 1024) :
    (show EReal from iblk m c 0 t (ix2 (row s r) k)) = m ((c.tc : Thread nD τ).loc main_arg0) (ix3 (seq t s) r k) := by
  blk_point [iblk, V, idx t]

theorem block1 (c : Dev nD) (t : Fin cfg0.N) (a : Fin 6) (k : Fin 1024) :
    (show EReal from iblk m c 1 t (ix3 0 a k)) = m ((c.tc : Thread nD τ).loc main_arg1) (ix3 0 a k) := by
  blk_point [iblk, V, idx t]

theorem block2 (c : Dev nD) (t : Fin cfg0.N) (a : Fin 4) (k : Fin 1024) :
    (show EReal from iblk m c 2 t (ix2 a k)) = m ((c.tc : Thread nD τ).loc main_arg2) (ix2 a k) := by
  blk_point [iblk, V, idx t]

theorem block3 (c : Dev nD) (t : Fin cfg0.N) (k : Fin 1024) (f : Fin 256) :
    (show EReal from iblk m c 3 t (ix2 k f)) = m ((c.tc : Thread nD τ).loc main_arg3) (ix2 k ⟨(col t f).val, by omega⟩) := by
  blk_point [iblk, V, idx t]

theorem block4 (c : Dev nD) (t : Fin cfg0.N) (k : Fin 1024) (f : Fin 256) :
    (show EReal from iblk m c 4 t (ix2 k f)) = m ((c.tc : Thread nD τ).loc main_arg3) (ix2 k ⟨2816 + (col t f).val, by omega⟩) := by
  blk_point [iblk, V, idx t]

theorem block5 (c : Dev nD) (t : Fin cfg0.N) (a : Fin 3) (f : Fin 256) :
    (show EReal from iblk m c 5 t (ix2 a f)) = m ((c.tc : Thread nD τ).loc main_arg4) (ix2 a (col t f)) := by
  blk_point [iblk, V, idx t]

theorem block6 (c : Dev nD) (t : Fin cfg0.N) (f : Fin 256) :
    (show EReal from iblk m c 6 t (ix2 0 f)) = m ((c.tc : Thread nD τ).loc main_arg5) (ix1 (col t f)) := by
  blk_point [iblk, V, idx t]

theorem block7 (c : Dev nD) (t : Fin cfg0.N) (f : Fin 256) (n : Fin 1024) :
    (show EReal from iblk m c 7 t (ix2 f n)) = m ((c.tc : Thread nD τ).loc main_arg6) (ix2 (col t f) n) := by
  blk_point [iblk, V, idx t]

/-- The reference's modulated rows over the launched arguments, of the sequences of a point's block. -/
abbrev rowsAt (c : Dev nD) (t : Fin cfg0.N) (s : Fin 2) : Fin 256 → Fin 1024 → EReal :=
  Cert.FfnRefIdeal.Meet.rows (m ((c.tc : Thread nD τ).loc main_arg0)) (m ((c.tc : Thread nD τ).loc main_arg1))
    (m ((c.tc : Thread nD τ).loc main_arg2)) (seq t s)

/-- The reference's activation over the launched arguments. -/
abbrev columnAt (c : Dev nD) (b : Fin 32) : Fin 256 → Fin 2816 → EReal :=
  Cert.FfnRefIdeal.Meet.column (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) b

/-- What a point adds to an entry of the accumulated projection: its chunk of 256 columns. -/
def term (c : Dev nD) (t : Fin cfg0.N) (i : Fin 2 × Fin 256 × Fin 1024) : EReal :=
  ∑ f : Fin 256, columnAt m c (seq t i.1) i.2.1 (col t f) * m ((c.tc : Thread nD τ).loc main_arg6) (ix2 (col t f) i.2.2)

/-- One row of a staged block of several. -/
theorem ld_gain (x : Vec Ideal S4x1024 .f32) (a : Fin 4) (h) (l : Fin 1024) :
    (show EReal from View.ld x (Rect.unit (s := S4x1024) ![a.val, 0] ![1, 1024] h) (ix2 0 l)) = x (ix2 a l) :=
  congrArg x (funext fun b => Fin.ext (by
    fin_cases b
    · show a.val + 1 * 0 = a.val; omega
    · show 0 + 1 * l.val = l.val; omega))

theorem ld_tap (x : Vec Ideal S3x256 .f32) (a : Fin 3) (h) (l : Fin 256) :
    (show EReal from View.ld x (Rect.unit (s := S3x256) ![a.val, 0] ![1, 256] h) (ix2 0 l)) = x (ix2 a l) :=
  congrArg x (funext fun b => Fin.ext (by
    fin_cases b
    · show a.val + 1 * 0 = a.val; omega
    · show 0 + 1 * l.val = l.val; omega))

/-- The rows a block's first point computes are the reference's. -/
theorem hidden_blocks (c : Dev nD) (t : Fin cfg0.N) (s : Fin 2) (r : Fin 256) (k : Fin 1024) (h) :
    k0_pay4 (F := Ideal) (iblk m c 1 t) (iblk m c 0 t) (View.ld (iblk m c 2 t) (Rect.unit (s := S4x1024) ![2, 0] ![1, 1024] h)) (ix2 (row s r) k)
      = rowsAt m c t s r k := by
  rw [hidden]
  unfold rowsAt Cert.FfnRefIdeal.Meet.rows
  rw [show (fun l => (show EReal from iblk m c 0 t (ix2 (row s r) l))) = _ from funext fun l => block0 m c t s r l,
    show (fun l => (show EReal from View.ld (iblk m c 2 t) (Rect.unit (s := S4x1024) ![2, 0] ![1, 1024] h) (ix2 0 l))) = _
      from funext fun l => (ld_gain (iblk m c 2 t) 2 h l).trans (block2 m c t 2 l),
    show (fun l => (show EReal from iblk m c 1 t (ix3 0 4 l))) = _ from funext fun l => block1 m c t 4 l,
    show (fun l => (show EReal from iblk m c 1 t (ix3 0 3 l))) = _ from funext fun l => block1 m c t 3 l]

/-- A point's chunk over its staged blocks, the rows in scratch being the reference's. -/
theorem chunk_blocks (c : Dev nD) (t : Fin cfg0.N) (hs : FVec Ideal S512x1024 .bf16) (acc : FVec Ideal S512x1024 .f32)
    (i : Fin 2 × Fin 256 × Fin 1024) (hh : ∀ r k, hs (ix2 (row i.1 r) k) = rowsAt m c t i.1 r k) (h0 h1 h2) :
    k0_pay1 (F := Ideal) (k0_pay12 (k0_pay6 hs (iblk m c 3 t)) (k0_pay7 hs (iblk m c 4 t)) k0_pay8 (k0_pay9 hs (iblk m c 4 t)) k0_pay10
      k0_pay11 (View.ld (iblk m c 5 t) (Rect.unit (s := S3x256) ![0, 0] ![1, 256] h0))
      (View.ld (iblk m c 5 t) (Rect.unit (s := S3x256) ![1, 0] ![1, 256] h1))
      (View.ld (iblk m c 5 t) (Rect.unit (s := S3x256) ![2, 0] ![1, 256] h2)) (iblk m c 6 t) acc (iblk m c 7 t)) (ix2 (row i.1 i.2.1) i.2.2)
      = acc (ix2 (row i.1 i.2.1) i.2.2) + term m c t i := by
  pointwise [k0_pay1]
  rw [chunk]
  refine congrArg (acc _ + ·) (Finset.sum_congr rfl fun f _ => congrArg₂ (· * ·) ?_ (block7 m c t f i.2.2))
  unfold columnAt Cert.FfnRefIdeal.Meet.column
  rw [show (fun r k => (show EReal from hs (ix2 (row i.1 r) k))) = _ from funext fun r => funext fun k => hh r k,
    show (fun k => (show EReal from iblk m c 3 t (ix2 k f))) = _ from funext fun k => block3 m c t k f,
    show (fun k => (show EReal from iblk m c 4 t (ix2 k f))) = _ from funext fun k => block4 m c t k f]
  have e0 := (ld_tap (iblk m c 5 t) 0 h0 f).trans (block5 m c t 0 f)
  have e1 := (ld_tap (iblk m c 5 t) 1 h1 f).trans (block5 m c t 1 f)
  have e2 := (ld_tap (iblk m c 5 t) 2 h2 f).trans (block5 m c t 2 f)
  have e3 := block6 m c t f
  congr 1

/-- The rows in scratch: written at a block's first point, kept over its chunks. -/
theorem scratch (c : Dev nD) (t : Fin cfg0.N) (s : Fin 2) (r : Fin 256) (k : Fin 1024) :
    (outsAt0 m c t.val t.isLt).2.1 (ix2 (row s r) k) = rowsAt m c t s r k := by
  have h := Pipeline.eq_of_write_hold_apply (fun n hn (i : Fin 2 × Fin 256 × Fin 1024) => (show EReal from (outsAt0 m c n hn).2.1 (ix2 (row i.1 i.2.1) i.2.2))) 11
    (fun t i => rowsAt m c t i.1 i.2.1 i.2.2)
    (fun t h0 i => by
      have h1 : ¬ t.val % 11 = 10 := by omega
      show (outsAt0 m c t.val t.isLt).2.1 _ = _
      rw [outsAt0_A m c t h0 h1]
      frame_out
      exact hidden_blocks m c t i.1 i.2.1 i.2.2 _)
    (fun t h0 i => by
      show (outsAt0 m c t.val t.isLt).2.1 _ = (outsAt0 m c (t.val - 1) _).2.1 _
      by_cases h1 : t.val % 11 = 10
      · rw [outsAt0_C m c t h0 h1]
        unfold sout0_C_0
        simp only [read_unread_whole]
      · rw [outsAt0_B m c t h0 h1]
        unfold sout0_B_0
        simp only [read_unread_whole])
    t (s, r, k)
  refine h.trans ?_
  have hN := t.isLt
  exact congrArg (fun b => Cert.FfnRefIdeal.Meet.rows _ _ _ b r k) (Fin.ext (by show 2 * (11 * (t.val / 11) / 11) + s.val = 2 * (t.val / 11) + s.val; omega))

/-- The rows the point before left in scratch belong to the same sequences, away from a block's first point. -/
theorem scratch_before (c : Dev nD) (t : Fin cfg0.N) (h0 : ¬ t.val % 11 = 0) (hn : t.val - 1 < cfg0.N) (s : Fin 2) (r : Fin 256) (k : Fin 1024) :
    (outsAt0 m c (t.val - 1) hn).2.1 (ix2 (row s r) k) = rowsAt m c t s r k :=
  (scratch m c ⟨t.val - 1, hn⟩ s r k).trans
    (congrArg (fun b => Cert.FfnRefIdeal.Meet.rows _ _ _ b r k)
      (Fin.ext (by show 2 * ((t.val - 1) / 11) + s.val = 2 * (t.val / 11) + s.val; omega)))

/-- The accumulated projection at a block's last point. -/
theorem accumulated (c : Dev nD) (t : Fin cfg0.N) (hr : t.val % 11 = 10) (i : Fin 2 × Fin 256 × Fin 1024) :
    (outsAt0 m c t.val t.isLt).2.2 (ix2 (row i.1 i.2.1) i.2.2)
      = ∑ j : Fin 11, term m c ⟨11 * (t.val / 11) + j.val, Pipeline.run_point_lt_of_flush t hr j⟩ i := by
  have h := Pipeline.eq_sum_fin_of_reset_step_apply_of_flush
    (fun n hn (i : Fin 2 × Fin 256 × Fin 1024) => (show EReal from (outsAt0 m c n hn).2.2 (ix2 (row i.1 i.2.1) i.2.2))) 11
    (fun _ => 0) (term m c)
    (fun t h0 i => by
      have h1 : ¬ t.val % 11 = 10 := by omega
      show (outsAt0 m c t.val t.isLt).2.2 _ = _
      rw [outsAt0_A m c t h0 h1]
      frame_out
      refine (chunk_blocks m c t _ _ i (fun r k => hidden_blocks m c t i.1 r k _) _ _ _).trans (congrArg (· + term m c t i) ?_)
      pointwise [k0_pay5])
    (fun t h0 i => by
      show (outsAt0 m c t.val t.isLt).2.2 _ = (outsAt0 m c (t.val - 1) _).2.2 _ + _
      by_cases h1 : t.val % 11 = 10
      · rw [outsAt0_C m c t h0 h1]
        frame_out
        simp only [read_unread_whole]
        exact chunk_blocks m c t _ _ i (fun r k => scratch_before m c t h0 _ i.1 r k) _ _ _
      · rw [outsAt0_B m c t h0 h1]
        frame_out
        simp only [read_unread_whole]
        exact chunk_blocks m c t _ _ i (fun r k => scratch_before m c t h0 _ i.1 r k) _ _ _)
    t hr i
  exact h.trans (zero_add _)

/-- The eleven chunks of 256 columns are the 2816 columns of the reference's projection. -/
theorem projected (c : Dev nD) (t : Fin cfg0.N) (hr : t.val % 11 = 10) (s : Fin 2) (r : Fin 256) (n : Fin 1024) :
    (outsAt0 m c t.val t.isLt).2.2 (ix2 (row s r) n)
      = Cert.FfnRefIdeal.Meet.branch (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (seq t s) r n := by
  refine (accumulated m c t hr (s, r, n)).trans ?_
  unfold term Cert.FfnRefIdeal.Meet.branch
  refine Fin.sum_mul_add_congr (fun j f hl => ?_)
  have hb : seq ⟨11 * (t.val / 11) + j.val, Pipeline.run_point_lt_of_flush t hr j⟩ s = seq t s :=
    Fin.ext (by show 2 * ((11 * (t.val / 11) + j.val) / 11) + s.val = 2 * (t.val / 11) + s.val; omega)
  have hc : col ⟨11 * (t.val / 11) + j.val, Pipeline.run_point_lt_of_flush t hr j⟩ f = ⟨j.val * 256 + f.val, hl⟩ :=
    Fin.ext (by show (11 * (t.val / 11) + j.val) % 11 * 256 + f.val = j.val * 256 + f.val; omega)
  show columnAt m c (seq _ s) r (col _ f) * _ = _
  rw [hb, hc]

/-- Row `(s, r)` of the block a point writes back is row `512 (t / 11) + 256 s + r` of the result. -/
theorem place8 (t : Fin cfg0.N) (r : Fin 512) (n : Fin 1024) :
    ((cfg0.win 8).blk t).view.emb (ix2 r n)
      = ix2 ⟨t.val / 11 * 512 + r, by have := t.isLt; have : cfg0.N = 176 := rfl; omega⟩ n := by
  blk_ext [idx t]

/-- The rows after the call are the reference's. -/
theorem final8 (c : Dev nD) :
    (dats m 0 c).arrAt 8 (cfgs 0).N
      = Cert.FfnRefIdeal.Read.val_main_v78 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) := by
  refine (dats m 0 c).arrAt_eq_of_covers 8 _ (by decide +kernel) fun t hf y => ?_
  have h1 : t.val % 11 = 10 := (flush0_8 t).mp hf
  have h0 : ¬ t.val % 11 = 0 := by omega
  blk_simp
  rw [after0_8]
  have hacc := projected m c t h1
  rw [outsAt0_C m c t h0 h1] at hacc ⊢
  frame_out at hacc ⊢
  idx_vars y
  refine Eq.trans ?_ (congrArg _ (place8 t y0 y1)).symm
  rw [Cert.FfnRefIdeal.Meet.result]
  generalize k0_pay1 (F := Ideal) _ = acc at hacc ⊢
  have ht : t.val < 176 := t.isLt
  obtain ⟨s, r, rfl⟩ : ∃ (s : Fin 2) (r : Fin 256), y0 = row s r :=
    ⟨⟨y0.val / 256, by omega⟩, ⟨y0.val % 256, by omega⟩, Fin.ext (by show y0.val = y0.val / 256 * 256 + y0.val % 256; omega)⟩
  have hb : ∀ h, (⟨(t.val / 11 * 512 + (s.val * 256 + r.val)) / 256, h⟩ : Fin 32) = seq t s := fun h =>
    Fin.ext (by show (t.val / 11 * 512 + (s.val * 256 + r.val)) / 256 = 2 * (t.val / 11) + s.val; omega)
  have hp : ∀ h, (⟨(t.val / 11 * 512 + (s.val * 256 + r.val)) % 256, h⟩ : Fin 256) = r := fun h =>
    Fin.ext (by show (t.val / 11 * 512 + (s.val * 256 + r.val)) % 256 = r.val; omega)
  rw [hb, hp, closing]
  rw [show (fun l => (show EReal from iblk m c 0 t (ix2 (row s r) l))) = _ from funext fun l => block0 m c t s r l,
    show (fun l => (show EReal from iblk m c 1 t (ix3 0 5 l))) = _ from funext fun l => block1 m c t 5 l,
    show (fun l => (show EReal from acc (ix2 (row s r) l))) = _ from funext fun l => hacc s r l,
    show (fun l => (show EReal from View.ld (iblk m c 2 t) (Rect.unit (s := S4x1024) ![3, 0] ![1, 1024] _) (ix2 0 l))) = _
      from funext fun l => (ld_gain (iblk m c 2 t) 3 _ l).trans (block2 m c t 3 l)]

end Cert.FfnIdeal.Meet

end
-- ==== Proof.AttentionLayer.lean ====
/- The differential attention of one head in plain functions of its rows, and what finite queries and keys give: a row of
   finite scores has numerators that do not add up to zero. -/
module

public import proofs.«01_k».proof.Proof.Spec

@[expose] public section

set_option maxRecDepth 16384

noncomputable section

open Idealize.ShloMosaic

namespace Layer

/-- One row of attention scores: a query against the keys of its sequence, scaled by an eighth. -/
def score (q : Fin 64 → EReal) (k : Fin 256 → Fin 64 → EReal) (c : Fin 256) : EReal :=
  (∑ l, q l * k c l) * Ideal.ofBits .f32 0x3E000000#32

/-- The numerators of a row's softmax: the exponentials of the scores less the greatest of them. -/
def numer (s : Fin 256 → EReal) (c : Fin 256) : EReal := Ideal.exp (s c - Finset.univ.fold max ⊥ s)

/-- A row's softmax. -/
def prob (s : Fin 256 → EReal) (c : Fin 256) : EReal := Ideal.div (numer s c) (∑ j, numer s j)

/-- The weight the second map is subtracted with, from its four vectors. -/
def mixing (p : Fin 4 → Fin 64 → EReal) : EReal :=
  Ideal.exp (∑ l, p 0 l * p 1 l) - Ideal.exp (∑ l, p 2 l * p 3 l) + Ideal.ofBits .f32 0x3E4CCCCD#32

/-- The attended values of one query. -/
def attended (p0 p1 : Fin 256 → EReal) (lam : EReal) (v : Fin 256 → Fin 128 → EReal) (n : Fin 128) : EReal :=
  ∑ c, (p0 c - lam * p1 c) * v c n

/-- A head's 128 entries normalised by their root mean square, weighted by the gains and by 0.8. -/
def headNorm (o g : Fin 128 → EReal) (n : Fin 128) : EReal :=
  o n * Ideal.rsqrt (Ideal.div (∑ l, o l * o l) (Ideal.ofBits .f32 0x43000000#32) + Ideal.ofBits .f32 0x358637BD#32) * g n
    * Ideal.ofBits .f32 0x3F4CCCCD#32

/-- The greatest of a row's entries is one of them. -/
theorem exists_top (s : Fin 256 → EReal) : ∃ c, Finset.univ.fold max ⊥ s = s c := by
  obtain ⟨c, _, hc⟩ := Finset.exists_mem_eq_sup (Finset.univ : Finset (Fin 256)) ⟨0, Finset.mem_univ _⟩ s
  exact ⟨c, hc⟩

/-- A number of the ideal arithmetic that is no infinity. -/
def Finite (x : EReal) : Prop := ∃ r : ℝ, x = r

theorem score_finite {q : Fin 64 → EReal} {k : Fin 256 → Fin 64 → EReal} (hq : ∀ l, Finite (q l)) (hk : ∀ c l, Finite (k c l)) (c : Fin 256) :
    Finite (score q k c) := by
  have h : Finite (∑ l, q l * k c l) := by
    refine Finset.sum_induction _ Finite ?_ ⟨0, rfl⟩ fun l _ => ?_
    · rintro _ _ ⟨a, rfl⟩ ⟨b, rfl⟩
      exact ⟨a + b, (EReal.coe_add a b).symm⟩
    · obtain ⟨a, ha⟩ := hq l
      obtain ⟨b, hb⟩ := hk c l
      exact ⟨a * b, by rw [ha, hb, EReal.coe_mul]⟩
  obtain ⟨a, ha⟩ := h
  refine ⟨a * (1 / 8), ?_⟩
  unfold score
  rw [ha, show Ideal.ofBits .f32 0x3E000000#32 = ((1 / 8 : ℝ) : EReal) by simp [Ideal.ofBits, Ideal.ieee, -EReal.coe_mul]; norm_num, EReal.coe_mul]

theorem numer_nonneg (s : Fin 256 → EReal) (c : Fin 256) : 0 ≤ numer s c := by
  unfold numer
  generalize s c - Finset.univ.fold max ⊥ s = x
  induction x with
  | bot => exact le_refl _
  | top => exact le_top
  | coe r => exact EReal.coe_nonneg.2 (Real.exp_pos r).le

/-- The numerators of a row of finite scores do not add up to zero: the greatest score's is one. -/
theorem total_ne_zero {s : Fin 256 → EReal} (h : ∀ c, Finite (s c)) : ∑ j, numer s j ≠ 0 := by
  obtain ⟨c, hc⟩ := exists_top s
  have h1 : numer s c = 1 := by
    unfold numer
    rw [hc]
    obtain ⟨r, hr⟩ := h c
    rw [hr, ← EReal.coe_sub, sub_self]
    show ((Real.exp 0 : ℝ) : EReal) = 1
    rw [Real.exp_zero]
    rfl
  have h2 : numer s c ≤ ∑ j, numer s j := Finset.single_le_sum (fun j _ => numer_nonneg s j) (Finset.mem_univ c)
  intro h0
  rw [h1, h0] at h2
  exact absurd h2 (not_le.2 zero_lt_one)

/-- With a total that is not zero, a numerator times the total's reciprocal is the quotient. -/
theorem numer_mul_inv {z : EReal} (hz : z ≠ 0) (e : EReal) : e * Ideal.div 1 z = Ideal.div e z := by
  unfold Ideal.div
  rw [if_neg hz, if_neg hz, one_mul]

/-- A sum over the 128 lanes of a head, the upper half masked to zero. -/
theorem lower_lanes (f : Fin 128 → EReal) :
    ∑ x : Fin 128, Scalar.select (IntOp.xori (IntOp.xori (IntOp.cmpi CmpIPredicate.slt (BitVec.ofNat 32 x.val) 64#32) 1#1) 1#1) (f x) 0
      = ∑ l : Fin 64, f ⟨l.val, by omega⟩ := by
  have h : ∀ x : Fin 128, IntOp.xori (IntOp.xori (IntOp.cmpi CmpIPredicate.slt (BitVec.ofNat 32 x.val) 64#32) 1#1) 1#1
      = if x.val < 64 then 1#1 else 0#1 := by decide +kernel
  rw [Finset.sum_congr rfl fun x _ => by rw [h x]]
  refine (Fin.sum_univ_add (a := 64) (b := 64) _).trans ?_
  refine (congrArg₂ (· + ·) (Finset.sum_congr (g := fun l : Fin 64 => f ⟨l.val, by omega⟩) rfl fun l _ => ?_)
    (Finset.sum_congr (g := fun _ : Fin 64 => (0 : EReal)) rfl fun l _ => ?_)).trans ?_
  · rw [if_pos (show (Fin.castAdd 64 l).val < 64 from l.isLt)]
    rfl
  · rw [if_neg (show ¬ (Fin.natAdd 64 l).val < 64 by show ¬ 64 + l.val < 64; omega)]
    rfl
  · rw [Finset.sum_const_zero, add_zero]

/-- A sum over the 128 lanes of a head, the lower half masked to zero. -/
theorem upper_lanes (f : Fin 128 → EReal) :
    ∑ x : Fin 128, Scalar.select (IntOp.xori (IntOp.xori (IntOp.cmpi CmpIPredicate.slt (BitVec.ofNat 32 x.val) 64#32) 0#1) 1#1) (f x) 0
      = ∑ l : Fin 64, f ⟨64 + l.val, by omega⟩ := by
  have h : ∀ x : Fin 128, IntOp.xori (IntOp.xori (IntOp.cmpi CmpIPredicate.slt (BitVec.ofNat 32 x.val) 64#32) 0#1) 1#1
      = if x.val < 64 then 0#1 else 1#1 := by decide +kernel
  rw [Finset.sum_congr rfl fun x _ => by rw [h x]]
  refine (Fin.sum_univ_add (a := 64) (b := 64) _).trans ?_
  refine (congrArg₂ (· + ·) (Finset.sum_congr (g := fun _ : Fin 64 => (0 : EReal)) rfl fun l _ => ?_)
    (Finset.sum_congr (g := fun l : Fin 64 => f ⟨64 + l.val, by omega⟩) rfl fun l _ => ?_)).trans ?_
  · rw [if_pos (show (Fin.castAdd 64 l).val < 64 from l.isLt)]
    rfl
  · rw [if_neg (show ¬ (Fin.natAdd 64 l).val < 64 by show ¬ 64 + l.val < 64; omega)]
    rfl
  · rw [Finset.sum_const_zero, zero_add]

end Layer

end
-- ==== Proof.AttentionRef.lean ====
/- The reference's differential attention, read at one entry: each of its arrays is the layer's function of the rows. -/
module

public import proofs.«01_k».proof.Proof.AttentionLayer
public import proofs.«01_k».proof.Proof.Gen.ReferenceIdeal.Read

@[expose] public section

set_option maxRecDepth 16384

noncomputable section

open Idealize.ShloMosaic

namespace Cert.ReferenceIdeal.Meet

open Cert.ReferenceIdeal Cert.ReferenceIdeal.Gen Cert.ReferenceIdeal.Read

variable (q k v : FVec Ideal S8192x512 .f32) (dl : FVec Ideal S1x4x64 .f32) (ds : FVec Ideal S1x128 .f32)

/-- The scores of map `a` of head `h` in sequence `b`. -/
def scores (b : Fin 32) (a : Fin 2) (h : Fin 4) (r : Fin 256) : Fin 256 → EReal :=
  Layer.score (fun l => q (ix2 ⟨b * 256 + r, by omega⟩ ⟨h * 128 + a * 64 + l, by omega⟩))
    (fun c l => k (ix2 ⟨b * 256 + c, by omega⟩ ⟨h * 128 + a * 64 + l, by omega⟩))

theorem scored (b : Fin 32) (a : Fin 2) (h : Fin 4) (r c : Fin 256) :
    val_main_v22 (F := Ideal) q k (ix5 b a h r c) = scores q k b a h r c := by
  pointwise [val_main_v22, val_main_v21, val_main_cst_2, val_main_v20, val_main_v0, val_main_v1, scores, Layer.score]

/-- The greatest score of a row. -/
theorem peak (b : Fin 32) (a : Fin 2) (h : Fin 4) (r : Fin 256) :
    val_main_v23 (F := Ideal) q k (ix4 b a h r) = Finset.univ.fold max ⊥ (scores q k b a h r) := by
  unfold val_main_v23
  rw [Host.reduce_eq_fold_single FloatOps.maximumf _ _ _ (by decide : S32x2x4x256x256.Reduces [4] S32x2x4x256)]
  refine Eq.trans (congrArg (fun f => Finset.fold max _ f _) (funext fun c => ?_ : _ = scores q k b a h r)) (congrArg (fun z => Finset.fold max z _ _) ?_)
  · refine Eq.trans (congrArg (val_main_v22 (F := Ideal) q k) (funext fun d => Fin.ext ?_)) (scored q k b a h r c)
    fin_cases d <;> rfl
  · show Ideal.ofBits .f32 0xFF800000#32 = ⊥
    simp [Ideal.ofBits, Ideal.ieee]

theorem peak' (b : Fin 32) (a : Fin 2) (h : Fin 4) (r : Fin 256) :
    val_main_v25 (F := Ideal) q k (ix4 b a h r) = Finset.univ.fold max ⊥ (scores q k b a h r) := by
  rw [val_main_v25_apply, val_main_v24_apply, val_main_cst_4_apply, peak]
  show max (Ideal.ofBits .f32 0xFF800000#32) _ = _
  exact max_eq_right (by simp [Ideal.ofBits, Ideal.ieee])

theorem numerator (b : Fin 32) (a : Fin 2) (h : Fin 4) (r c : Fin 256) :
    val_main_v29 (F := Ideal) q k (ix5 b a h r c) = Layer.numer (scores q k b a h r) c := by
  pointwise [val_main_v29, val_main_v28, val_main_v27, val_main_v26, peak', scored, Layer.numer]

theorem total (b : Fin 32) (a : Fin 2) (h : Fin 4) (r : Fin 256) :
    val_main_v30 (F := Ideal) q k (ix4 b a h r) = ∑ j, Layer.numer (scores q k b a h r) j := by
  pointwise [val_main_v30, val_main_cst_5, numerator]

theorem softmax (b : Fin 32) (a : Fin 2) (h : Fin 4) (r c : Fin 256) :
    val_main_v33 (F := Ideal) q k (ix5 b a h r c) = Layer.prob (scores q k b a h r) c := by
  pointwise [val_main_v33, val_main_v32, val_main_v31, total, numerator, Layer.prob]

/-- The first map's row. -/
theorem map₀ (b : Fin 32) (h : Fin 4) (r c : Fin 256) :
    val_main_v35 (F := Ideal) q k (ix4 b h r c) = Layer.prob (scores q k b 0 h r) c := by
  rw [val_main_v35_apply, val_main_v34_apply, ← softmax]
  refine congrArg (val_main_v33 (F := Ideal) q k) (funext fun d => Fin.ext ?_)
  fin_cases d
  · show (((b.val * 4 + h.val) * 256 + r.val) * 256 + c.val) / 262144 = b.val; omega
  · rfl
  · show (((b.val * 4 + h.val) * 256 + r.val) * 256 + c.val) / 65536 % 4 = h.val; omega
  · show (((b.val * 4 + h.val) * 256 + r.val) * 256 + c.val) / 256 % 256 = r.val; omega
  · show (((b.val * 4 + h.val) * 256 + r.val) * 256 + c.val) % 256 = c.val; omega

/-- The second map's row. -/
theorem map₁ (b : Fin 32) (h : Fin 4) (r c : Fin 256) :
    val_main_v37 (F := Ideal) q k (ix4 b h r c) = Layer.prob (scores q k b 1 h r) c := by
  rw [val_main_v37_apply, val_main_v36_apply, ← softmax]
  refine congrArg (val_main_v33 (F := Ideal) q k) (funext fun d => Fin.ext ?_)
  fin_cases d
  · show (((b.val * 4 + h.val) * 256 + r.val) * 256 + c.val) / 262144 = b.val; omega
  · rfl
  · show (((b.val * 4 + h.val) * 256 + r.val) * 256 + c.val) / 65536 % 4 = h.val; omega
  · show (((b.val * 4 + h.val) * 256 + r.val) * 256 + c.val) / 256 % 256 = r.val; omega
  · show (((b.val * 4 + h.val) * 256 + r.val) * 256 + c.val) % 256 = c.val; omega

theorem mixed : val_main_v19 (F := Ideal) dl ix0 = Layer.mixing (fun a l => dl (ix3 0 a l)) := by
  pointwise [val_main_v19, val_main_cst_1, val_main_v18, val_main_v17, val_main_v16, val_main_cst_0, val_main_v15, val_main_v14,
    val_main_v13, val_main_v12, val_main_v11, val_main_v10, val_main_v9, val_main_cst, val_main_v8, val_main_v7, val_main_v6,
    val_main_v5, val_main_v4, val_main_v3, Layer.mixing]

/-- A head's attended values for one query. -/
def output (b : Fin 32) (h : Fin 4) (r : Fin 256) : Fin 128 → EReal :=
  Layer.attended (Layer.prob (scores q k b 0 h r)) (Layer.prob (scores q k b 1 h r)) (Layer.mixing (fun a l => dl (ix3 0 a l)))
    (fun c n => v (ix2 ⟨b * 256 + c, by omega⟩ ⟨h * 128 + n, by omega⟩))

theorem value (b : Fin 32) (c : Fin 256) (h : Fin 4) (n : Fin 128) :
    val_main_v2 (F := Ideal) v (ix4 b c h n) = v (ix2 ⟨b * 256 + c, by omega⟩ ⟨h * 128 + n, by omega⟩) := by
  pointwise [val_main_v2]

/-- The difference of the two maps. -/
theorem weight (b : Fin 32) (h : Fin 4) (r c : Fin 256) :
    val_main_v40 (F := Ideal) q k dl (ix4 b h r c)
      = Layer.prob (scores q k b 0 h r) c - Layer.mixing (fun a l => dl (ix3 0 a l)) * Layer.prob (scores q k b 1 h r) c := by
  rw [val_main_v40_apply, map₀, val_main_v39_apply, map₁, val_main_v38_apply, ← mixed]
  exact congrArg (fun i => Layer.prob (scores q k b 0 h r) c - val_main_v19 (F := Ideal) dl i * Layer.prob (scores q k b 1 h r) c)
    (funext fun d => d.elim0)

theorem attends (b : Fin 32) (r : Fin 256) (h : Fin 4) (n : Fin 128) :
    val_main_v42 (F := Ideal) q k v dl (ix4 b r h n) = output q k v dl b h r n := by
  rw [val_main_v42_apply, val_main_v41_apply]
  unfold output Layer.attended
  refine Finset.sum_congr rfl fun c _ => ?_
  refine (mul_comm _ _).trans (congrArg₂ (· * ·) (Eq.trans (congrArg (val_main_v40 (F := Ideal) q k dl) (funext fun d => Fin.ext ?_)) (weight q k dl b h r c))
    (Eq.trans (congrArg (val_main_v2 (F := Ideal) v) (funext fun d => Fin.ext ?_)) (value v b c h n)))
  · fin_cases d <;> rfl
  · fin_cases d <;> rfl

/-- The reference's result. -/
theorem result (b : Fin 32) (r : Fin 256) (h : Fin 4) (n : Fin 128) :
    val_main_v58 (F := Ideal) q k v dl ds (ix4 b r h n) = Layer.headNorm (output q k v dl b h r) (fun l => ds (ix2 0 l)) n := by
  pointwise [val_main_v58, val_main_v57, val_main_cst_9, val_main_v56, val_main_v55, val_main_v54, val_main_v53, val_main_v52,
    val_main_v51, val_main_v50, val_main_v49, val_main_cst_8, val_main_v48, val_main_v47, val_main_cst_7, val_main_v46,
    val_main_v45, val_main_cst_6, val_main_v44, val_main_v43, attends, Layer.headNorm]

end Cert.ReferenceIdeal.Meet

end
-- ==== Proof.Attention.lean ====
/- The differential attention over the context tokens: the kernel's block of one sequence and head computes what the
   reference computes for it. The kernel scores both halves of a head by one product of 128 lanes with the other half
   masked to zero, and normalises by a reciprocal where the reference divides; with finite queries and keys the two are
   the same number. -/
module

public import proofs.«01_k».proof.Defs
public import Idealize.ShloMosaic.Lib.Affine
public import Idealize.ShloMosaic.Lib.ReduceAll
public import proofs.«01_k».proof.Proof.AttentionRef
public import proofs.«01_k».proof.Proof.Gen.KernelIdeal.Value

@[expose] public section

set_option maxRecDepth 16384

noncomputable section

open Idealize.ShloMosaic

namespace Cert.KernelIdeal.Meet

open Cert.KernelIdeal Cert.KernelIdeal.Gen

theorem mixed (p : FVec Ideal S4x64 .f32) : k0_pay2 (F := Ideal) p (ix2 0 0) = Layer.mixing (fun a l => p (ix2 a l)) := by
  pointwise [k0_pay2, Layer.mixing]

/-- The numerators of the first map's rows. -/
theorem first (q k : FVec Ideal S256x128 .f32) (r c : Fin 256) :
    k0_pay5 (F := Ideal) q k (ix2 r c)
      = Layer.numer (Layer.score (fun l => q (ix2 r ⟨l, by omega⟩)) (fun c l => k (ix2 c ⟨l, by omega⟩))) c := by
  have hb : Ideal.ofBits .f32 0xFF800000#32 = ⊥ := by simp [Ideal.ofBits, Ideal.ieee]
  pointwise [k0_pay5, k0_pay4, Layer.numer, Layer.score]
  rw [hb]
  simp only [Layer.lower_lanes]

variable {F : FTy → Type} [FloatOps F]

/-- The scores of the second map, as the kernel computes them: the lower half of the query's lanes masked to zero. -/
def scores₂ (q : Vec F S256x128 .f32) (k : FVec F S256x128 .bf16) : FVec F S256x256 .f32 :=
  mulf (matmul dot_S256x128_S256x128_S256x256_1_1_0_0_n_n none
      (truncf .bf16 (select (xori (xori (cmpi .slt (iota .tc S256x128 32 [1] iota_S256x128_d1_w32) (broadcast S256x128 64#32))
        (broadcastTo S256x128 (broadcast S256x128 0#1) broadcasts_S256x128_S256x128)) (constantI S256x128 1 1#1)) q
        (broadcast S256x128 (Scalar.ofBits .f32 0x00000000#32 : F .f32))) bitsLt_bf16_f32) k (constant S256x256 .f32 0x00000000#32))
    (broadcast S256x256 (Scalar.ofBits .f32 0x3E000000#32 : F .f32))

/-- The numerators of a row of scores, as the kernel computes them. -/
def numer₂ (s : FVec F S256x256 .f32) : FVec F S256x256 .f32 :=
  exp (subf s (broadcastTo S256x256 (shapeCast S256x1 (multiReduction .maximumf [1] S256 s 0xFF800000#32 reduces_S256x256_S256 (.inl rfl) rfl)
    shapeCasts_S256_S256x1) broadcasts_S256x1_S256x256))

/-- The numerators normalised by the reciprocal of their sum. -/
def prob₂ (e : FVec F S256x256 .f32) : FVec F S256x256 .f32 :=
  mulf e (broadcastTo S256x256 (divf (broadcast S256x1 (Scalar.ofBits .f32 0x3F800000#32 : F .f32))
    (shapeCast S256x1 (multiReduction .add [1] S256 e 0x00000000#32 reduces_S256x256_S256 (.inl rfl) rfl) shapeCasts_S256_S256x1))
    broadcasts_S256x1_S256x256)

/-- The attended values. -/
def attended₂ (lam : FVec F S1x1 .f32) (p0 p1 : FVec F S256x256 .f32) (v : FVec F S256x128 .bf16) : FVec F S256x128 .f32 :=
  matmul dot_S256x256_S256x128_S256x128_1_0_0_1_n_n none
    (truncf .bf16 (subf p0 (mulf (broadcastTo S256x256 lam broadcasts_S1x1_S256x256) p1)) bitsLt_bf16_f32) v (constant S256x128 .f32 0x00000000#32)

/-- The attended values over their root mean square. -/
def normed₂ (o : FVec F S256x128 .f32) : FVec F S256x128 .f32 :=
  mulf o (broadcastTo S256x128 (rsqrt (addf (divf (shapeCast S256x1
    (multiReduction .add [1] S256 (mulf o o) 0x00000000#32 reduces_S256x128_S256 (.inl rfl) rfl) shapeCasts_S256_S256x1)
    (broadcast S256x1 (Scalar.ofBits .f32 0x43000000#32 : F .f32))) (broadcast S256x1 (Scalar.ofBits .f32 0x358637BD#32 : F .f32))))
    broadcasts_S256x1_S256x128)

/-- The kernel's second half is those five steps. -/
theorem parts (lam : FVec F S1x1 .f32) (q : Vec F S256x128 .f32) (v k : FVec F S256x128 .bf16) (e : FVec F S256x256 .f32) :
    k0_pay6 lam q v k (iota .tc S256x128 32 [1] iota_S256x128_d1_w32) e
      = normed₂ (attended₂ lam (prob₂ e) (prob₂ (numer₂ (scores₂ q k))) v) := rfl

theorem second (q k : FVec Ideal S256x128 .f32) (r c : Fin 256) :
    numer₂ (F := Ideal) (scores₂ q (k0_pay4 k)) (ix2 r c)
      = Layer.numer (Layer.score (fun l => q (ix2 r ⟨64 + l, by omega⟩)) (fun c l => k (ix2 c ⟨64 + l, by omega⟩))) c := by
  have hb : Ideal.ofBits .f32 0xFF800000#32 = ⊥ := by simp [Ideal.ofBits, Ideal.ieee]
  pointwise [numer₂, scores₂, k0_pay4, Layer.numer, Layer.score]
  rw [hb]
  simp only [Layer.upper_lanes]

/-- With a row's total not zero, normalising by the reciprocal is the softmax. -/
theorem normalised (e : FVec Ideal S256x256 .f32) (s : Fin 256 → EReal) (r c : Fin 256) (he : ∀ j, e (ix2 r j) = Layer.numer s j)
    (hz : ∑ j, Layer.numer s j ≠ 0) : prob₂ (F := Ideal) e (ix2 r c) = Layer.prob s c := by
  pointwise [prob₂]
  rw [show (fun x => (show EReal from e (ix2 r x))) = _ from funext he, he]
  exact Layer.numer_mul_inv hz _

theorem attends (lam : FVec Ideal S1x1 .f32) (p0 p1 : FVec Ideal S256x256 .f32) (v : FVec Ideal S256x128 .f32) (r : Fin 256) (n : Fin 128) :
    attended₂ (F := Ideal) lam p0 p1 (k0_pay3 v) (ix2 r n)
      = Layer.attended (fun c => p0 (ix2 r c)) (fun c => p1 (ix2 r c)) (lam (ix2 0 0)) (fun c n => v (ix2 c n)) n := by
  pointwise [attended₂, k0_pay3, Layer.attended]

theorem closing (o : FVec Ideal S256x128 .f32) (g : FVec Ideal S1x128 .f32) (r : Fin 256) (n : Fin 128) :
    k0_pay1 (F := Ideal) (normed₂ o) g (ix2 r n) = Layer.headNorm (fun n => o (ix2 r n)) (fun n => g (ix2 0 n)) n := by
  pointwise [k0_pay1, normed₂, Layer.headNorm]

/-- A block of the kernel, its queries and keys finite. -/
theorem block (lp : FVec Ideal S4x64 .f32) (q k v : FVec Ideal S256x128 .f32) (g : FVec Ideal S1x128 .f32)
    (hq : ∀ r l, Layer.Finite (q (ix2 r l))) (hk : ∀ r l, Layer.Finite (k (ix2 r l))) (r : Fin 256) (n : Fin 128) :
    k0_pay1 (F := Ideal) (k0_pay6 (k0_pay2 lp) q (k0_pay3 v) (k0_pay4 k) (iota .tc S256x128 32 [1] iota_S256x128_d1_w32) (k0_pay5 q k)) g (ix2 r n)
      = Layer.headNorm (Layer.attended
          (Layer.prob (Layer.score (fun l => q (ix2 r ⟨l, by omega⟩)) (fun c l => k (ix2 c ⟨l, by omega⟩))))
          (Layer.prob (Layer.score (fun l => q (ix2 r ⟨64 + l, by omega⟩)) (fun c l => k (ix2 c ⟨64 + l, by omega⟩))))
          (Layer.mixing (fun a l => lp (ix2 a l))) (fun c n => v (ix2 c n))) (fun n => g (ix2 0 n)) n := by
  rw [parts, closing]
  congr 1
  funext n
  rw [attends, mixed]
  congr 1
  · funext c
    exact normalised _ _ r c (first q k r) (Layer.total_ne_zero fun c => Layer.score_finite (fun l => hq _ _) (fun c l => hk _ _) c)
  · funext c
    exact normalised _ _ r c (second q k r) (Layer.total_ne_zero fun c => Layer.score_finite (fun l => hq _ _) (fun c l => hk _ _) c)

variable (m : (ℓ : Loc nD τ sig) → Buf (Elt Ideal) ℓ)

/-- Where each window's block lies: the sequence by the quarter of the point's number, the head by the rest. -/
theorem idx : ∀ t : Fin cfg0.N,
    win0_0.index t = ![0, 0] ∧ win0_1.index t = ![0, 0] ∧ win0_2.index t = ![t.val / 4, t.val % 4] ∧ win0_3.index t = ![t.val / 4, t.val % 4]
      ∧ win0_4.index t = ![t.val / 4, t.val % 4] ∧ win0_5.index t = ![t.val / 4, t.val % 4] :=
  (by decide +kernel : ∀ t : Fin grid0.N, _)

/-- The row and the column of the arrays that a point's block has its entry at. -/
abbrev rowOf (t : Fin cfg0.N) (r : Fin 256) : Fin 8192 := ⟨t.val / 4 * 256 + r.val, by have := t.isLt; have : cfg0.N = 128 := rfl; omega⟩
abbrev colOf (t : Fin cfg0.N) (n : Fin 128) : Fin 512 := ⟨t.val % 4 * 128 + n.val, by omega⟩

theorem block0 (c : Dev nD) (t : Fin cfg0.N) (a : Fin 4) (l : Fin 64) :
    (show EReal from iblk m c 0 t (ix2 a l)) = m ((c.tc : Thread nD τ).loc main_arg3) (ix3 0 a l) := by
  blk_point [iblk, V, idx t]

theorem block1 (c : Dev nD) (t : Fin cfg0.N) (l : Fin 128) :
    (show EReal from iblk m c 1 t (ix2 0 l)) = m ((c.tc : Thread nD τ).loc main_arg4) (ix2 0 l) := by
  blk_point [iblk, V, idx t]

theorem block2 (c : Dev nD) (t : Fin cfg0.N) (r : Fin 256) (n : Fin 128) :
    (show EReal from iblk m c 2 t (ix2 r n)) = m ((c.tc : Thread nD τ).loc main_arg0) (ix2 (rowOf t r) (colOf t n)) := by
  blk_point [iblk, V, idx t]

theorem block3 (c : Dev nD) (t : Fin cfg0.N) (r : Fin 256) (n : Fin 128) :
    (show EReal from iblk m c 3 t (ix2 r n)) = m ((c.tc : Thread nD τ).loc main_arg1) (ix2 (rowOf t r) (colOf t n)) := by
  blk_point [iblk, V, idx t]

theorem block4 (c : Dev nD) (t : Fin cfg0.N) (r : Fin 256) (n : Fin 128) :
    (show EReal from iblk m c 4 t (ix2 r n)) = m ((c.tc : Thread nD τ).loc main_arg2) (ix2 (rowOf t r) (colOf t n)) := by
  blk_point [iblk, V, idx t]

theorem place5 (t : Fin cfg0.N) (r : Fin 256) (n : Fin 128) :
    ((cfg0.win 5).blk t).view.emb (ix2 r n) = ix2 (rowOf t r) (colOf t n) := by
  blk_ext [idx t]

/-- The reference's result at an index of the flat array. -/
theorem flat (q k v : FVec Ideal S8192x512 .f32) (dl : FVec Ideal S1x4x64 .f32) (ds : FVec Ideal S1x128 .f32) (t : Fin cfg0.N) (r : Fin 256) (n : Fin 128) :
    Cert.ReferenceIdeal.Read.val_main_v59 (F := Ideal) q k v dl ds (ix2 (rowOf t r) (colOf t n))
      = Cert.ReferenceIdeal.Read.val_main_v58 (F := Ideal) q k v dl ds
          (ix4 ⟨t.val / 4, by have := t.isLt; have : cfg0.N = 128 := rfl; omega⟩ r ⟨t.val % 4, by omega⟩ n) := by
  rw [Cert.ReferenceIdeal.Read.val_main_v59_apply]
  refine congrArg (Cert.ReferenceIdeal.Read.val_main_v58 (F := Ideal) q k v dl ds) (funext fun d => Fin.ext ?_)
  have := t.isLt
  have : cfg0.N = 128 := rfl
  fin_cases d
  · show ((t.val / 4 * 256 + r.val) * 512 + (t.val % 4 * 128 + n.val)) / 131072 = t.val / 4; omega
  · show ((t.val / 4 * 256 + r.val) * 512 + (t.val % 4 * 128 + n.val)) / 512 % 256 = r.val; omega
  · show ((t.val / 4 * 256 + r.val) * 512 + (t.val % 4 * 128 + n.val)) / 128 % 4 = t.val % 4; omega
  · show ((t.val / 4 * 256 + r.val) * 512 + (t.val % 4 * 128 + n.val)) % 128 = n.val; omega

theorem finite_of_below {x : EReal} (h : max x (-x) < Ideal.ofBits .f32 0x7F800000#32) : Layer.Finite x := by
  rw [show Ideal.ofBits .f32 0x7F800000#32 = ⊤ by simp [Ideal.ofBits, Ideal.ieee]] at h
  induction x with
  | bot => exact absurd h (by simp)
  | top => exact absurd h (by simp)
  | coe r => exact ⟨r, rfl⟩

/-- What the precondition says: no query and no key is an infinity. -/
theorem finite_of_pre [Cert.Pre_finite_queries_keys.Facts] (h : Cert.Pre_KernelIdeal_finite_queries_keys m) (c : Dev nD) :
    (∀ i, Layer.Finite (m ((c.tc : Thread nD τ).loc main_arg0) i)) ∧ ∀ i, Layer.Finite (m ((c.tc : Thread nD τ).loc main_arg1) i) := by
  have e := congrFun (h c) (Shape.Idx.first Cert.Pre_finite_queries_keys.Facts.h_S_)
  obtain ⟨e0, e1⟩ := IntOp.andi_eq_one.1 e
  have below : ∀ {x y : EReal}, FloatOps.cmpf (F := Ideal) (φ := .f32) .olt x y = 1#1 → x < y := fun {x y} h => by
    by_contra hn
    have : BitVec.ofBool (decide (x < y)) = 1#1 := h
    rw [decide_eq_false hn] at this
    exact absurd this (by decide)
  exact ⟨fun i => finite_of_below (below (Host.reduce_andi_all _ _ _ _ _ e0 i)), fun i => finite_of_below (below (Host.reduce_andi_all _ _ _ _ _ e1 i))⟩

/-- The attention after the call is the reference's, the queries and keys being finite. -/
theorem final5 (c : Dev nD)
    (hq : ∀ i, Layer.Finite (m ((c.tc : Thread nD τ).loc main_arg0) i)) (hk : ∀ i, Layer.Finite (m ((c.tc : Thread nD τ).loc main_arg1) i)) :
    (dats m 0 c).arrAt 5 (cfgs 0).N
      = Cert.ReferenceIdeal.Read.val_main_v59 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  refine (dats m 0 c).arrAt_eq_of_covers 5 _ (by decide +kernel) fun t _ y => ?_
  blk_simp
  rw [after0_5]
  frame_out
  idx_vars y
  refine Eq.trans ?_ (congrArg _ (place5 t y0 y1)).symm
  rw [flat, Cert.ReferenceIdeal.Meet.result]
  refine (block (iblk m c 0 t) (iblk m c 2 t) (iblk m c 3 t) (iblk m c 4 t) (iblk m c 1 t) ?_ ?_ y0 y1).trans ?_
  · intro r l
    exact (congrArg Layer.Finite (block2 m c t r l)).mpr (hq _)
  · intro r l
    exact (congrArg Layer.Finite (block3 m c t r l)).mpr (hk _)
  · unfold Cert.ReferenceIdeal.Meet.output Cert.ReferenceIdeal.Meet.scores
    have same : ∀ {A A' : Fin 256 → EReal} {B B' : Fin 256 → EReal} {x x' : EReal} {V V' : Fin 256 → Fin 128 → EReal} {G G' : Fin 128 → EReal},
        A = A' → B = B' → x = x' → V = V' → G = G' →
        Layer.headNorm (Layer.attended A B x V) G y1 = Layer.headNorm (Layer.attended A' B' x' V') G' y1 := by
      rintro _ _ _ _ _ _ _ _ _ _ rfl rfl rfl rfl rfl
      rfl
    refine same (congrArg Layer.prob (congrArg₂ Layer.score (funext fun l => ?_) (funext fun j => funext fun l => ?_)))
      (congrArg Layer.prob (congrArg₂ Layer.score (funext fun l => ?_) (funext fun j => funext fun l => ?_)))
      (congrArg Layer.mixing (funext fun a => funext fun l => block0 m c t a l)) (funext fun j => funext fun n => block4 m c t j n)
      (funext fun l => block1 m c t l)
    · exact (block2 m c t y0 _).trans (congrArg (fun z => m ((c.tc : Thread nD τ).loc main_arg0) (ix2 (rowOf t y0) z))
        (Fin.ext (by show t.val % 4 * 128 + l.val = t.val % 4 * 128 + 0 * 64 + l.val; omega)))
    · exact (block3 m c t j _).trans (congrArg (fun z => m ((c.tc : Thread nD τ).loc main_arg1) (ix2 (rowOf t j) z))
        (Fin.ext (by show t.val % 4 * 128 + l.val = t.val % 4 * 128 + 0 * 64 + l.val; omega)))
    · exact (block2 m c t y0 _).trans (congrArg (fun z => m ((c.tc : Thread nD τ).loc main_arg0) (ix2 (rowOf t y0) z))
        (Fin.ext (by show t.val % 4 * 128 + (64 + l.val) = t.val % 4 * 128 + 1 * 64 + l.val; omega)))
    · exact (block3 m c t j _).trans (congrArg (fun z => m ((c.tc : Thread nD τ).loc main_arg1) (ix2 (rowOf t j) z))
        (Fin.ext (by show t.val % 4 * 128 + (64 + l.val) = t.val % 4 * 128 + 1 * 64 + l.val; omega)))

end Cert.KernelIdeal.Meet

end
-- ==== Proof.Fourier.lean ====
/- The value of the odd layer's Fourier mixer: the kernel transforms each channel group of the modulated rows by products
   with cosine and sine tables, adds up the output projection group by group, and closes with the norm and the residual;
   the array it leaves is the reference's. -/
module

public import proofs.«01_k».proof.Proof.Spec
public import proofs.«01_k».proof.Proof.Gen.FourierIdeal.Value
public import proofs.«01_k».proof.Proof.Gen.FourierRefIdeal.Read

@[expose] public section

set_option maxRecDepth 16384

noncomputable section

open Idealize.ShloMosaic Idealize.ShloMosaic.TcCoe Idealize.SL.Sem
open Idealize.ShloMosaic.Pipeline (Dat)

namespace Cert.FourierRefIdeal.Meet

open Cert.FourierRefIdeal Cert.FourierRefIdeal.Gen Cert.FourierRefIdeal.Read

variable (x : FVec Ideal S32x256x1024 .f32) (mod : FVec Ideal S8x6x1024 .f32) (gains : FVec Ideal S4x1024 .f32)
  (cc sc : FVec Ideal S128x128 .f32) (cl sl : FVec Ideal S256x256 .f32) (w : FVec Ideal S1x1024x1024 .f32)

/-- The modulated rows of a sequence. -/
def rows (b : Fin 32) (t : Fin 256) (k : Fin 1024) : EReal :=
  Layer.modNorm (fun l => x (ix3 b t l)) (fun l => gains (ix2 0 l)) (fun l => mod (ix3 0 1 l)) (fun l => mod (ix3 0 0 l)) k

theorem hidden (b : Fin 32) (t : Fin 256) (k : Fin 1024) : val_main_v29 (F := Ideal) x mod gains (ix3 b t k) = rows x mod gains b t k := by
  pointwise [val_main_v29, val_main_v28, val_main_v27, val_main_v26, val_main_v25, val_main_v24, val_main_cst_2, val_main_v23,
    val_main_v22, val_main_v21, val_main_v20, val_main_v19, val_main_v18, val_main_v17, val_main_v16, val_main_cst_1,
    val_main_v15, val_main_v14, val_main_cst_0, val_main_v13, val_main_v12, val_main_cst, val_main_v11, val_main_v10,
    val_main_v9, val_main_v4, val_main_v3, val_main_v2, val_main_v1, val_main_v0, rows, Layer.modNorm, Layer.rmsFactor]
  have hk := k.isLt
  refine congrArg₂ (· + ·) (congrArg₂ (· * ·) rfl (congrArg (1 + mod ·) ?_)) (congrArg mod ?_)
  · exact congrArg (fun r => ix3 0 r k) (Fin.ext (by show (1024 + (k : ℕ)) / 1024 = 1; omega))
  · exact congrArg₂ (fun r l => ix3 0 r l) (Fin.ext (by show (k : ℕ) / 1024 = 0; omega)) (Fin.ext (by show (k : ℕ) % 1024 = k; omega))

/-- The rows split into channel groups. -/
theorem grouped (b : Fin 32) (t : Fin 256) (g : Fin 8) (c : Fin 128) :
    val_main_v30 (F := Ideal) x mod gains (ix4 b t g c) = rows x mod gains b t (Layer.chan g c) := by
  refine Eq.trans ?_ (hidden x mod gains b t (Layer.chan g c))
  rw [val_main_v30_apply]
  have hb := b.isLt
  have ht := t.isLt
  have hg := g.isLt
  have hc := c.isLt
  refine congrArg _ (funext fun a => Fin.ext ?_)
  fin_cases a
  · show (((b.val * 256 + t.val) * 8 + g.val) * 128 + c.val) / 262144 = b.val; omega
  · show (((b.val * 256 + t.val) * 8 + g.val) * 128 + c.val) / 1024 % 256 = t.val; omega
  · show (((b.val * 256 + t.val) * 8 + g.val) * 128 + c.val) % 1024 = g.val * 128 + c.val; omega

/-- The transform of a group. -/
abbrev transformed (b : Fin 32) (p : Fin 256) (g : Fin 8) (d : Fin 128) : EReal :=
  Layer.fourier (rows x mod gains b) (fun c d => cc (ix2 c d)) (fun c d => sc (ix2 c d)) (fun p t => cl (ix2 p t)) (fun p t => sl (ix2 p t)) p g d

theorem cosines (b : Fin 32) (p : Fin 256) (g : Fin 8) (d : Fin 128) :
    val_main_v33 (F := Ideal) x mod gains cc cl (ix4 b p g d)
      = ∑ t, cl (ix2 p t) * ∑ c, rows x mod gains b t (Layer.chan g c) * cc (ix2 c d) := by
  pointwise [val_main_v33, val_main_v32, val_main_v31, grouped]
  exact Finset.sum_congr rfl fun t _ => mul_comm _ _

theorem sines (b : Fin 32) (p : Fin 256) (g : Fin 8) (d : Fin 128) :
    val_main_v36 (F := Ideal) x mod gains sc sl (ix4 b p g d)
      = ∑ t, sl (ix2 p t) * ∑ c, rows x mod gains b t (Layer.chan g c) * sc (ix2 c d) := by
  pointwise [val_main_v36, val_main_v35, val_main_v34, grouped]
  exact Finset.sum_congr rfl fun t _ => mul_comm _ _

theorem spectrum (b : Fin 32) (p : Fin 256) (g : Fin 8) (d : Fin 128) :
    val_main_v38 (F := Ideal) x mod gains cc sc cl sl (ix3 b p (Layer.chan g d)) = transformed x mod gains cc sc cl sl b p g d := by
  rw [val_main_v38_apply, val_main_v37_apply]
  have hb := b.isLt
  have hp := p.isLt
  have hg := g.isLt
  have hd := d.isLt
  rw [show idx_main_v38 (ix3 b p (Layer.chan g d)) = ix4 b p g d from funext fun a => Fin.ext (by
    fin_cases a
    · show ((b.val * 256 + p.val) * 1024 + (g.val * 128 + d.val)) / 262144 = b.val; omega
    · show ((b.val * 256 + p.val) * 1024 + (g.val * 128 + d.val)) / 1024 % 256 = p.val; omega
    · show ((b.val * 256 + p.val) * 1024 + (g.val * 128 + d.val)) / 128 % 8 = g.val; omega
    · show ((b.val * 256 + p.val) * 1024 + (g.val * 128 + d.val)) % 128 = d.val; omega), cosines, sines]
  rfl

/-- An entry of the branch: the transformed channels against a column of the output weight, group by group. -/
def branch (b : Fin 32) (p : Fin 256) (n : Fin 1024) : EReal :=
  ∑ g, ∑ d, transformed x mod gains cc sc cl sl b p g d * w (ix3 0 (Layer.chan g d) n)

theorem projection (b : Fin 32) (p : Fin 256) (n : Fin 1024) :
    val_main_v40 (F := Ideal) x mod gains cc sc cl sl w (ix3 b p n) = branch x mod gains cc sc cl sl w b p n := by
  refine Eq.trans (b := ∑ k, val_main_v38 (F := Ideal) x mod gains cc sc cl sl (ix3 b p k) * w (ix3 0 k n)) ?_ ?_
  · pointwise [val_main_v40, val_main_v39]
  · rw [Layer.sum_chan]
    exact Finset.sum_congr rfl fun g _ => Finset.sum_congr rfl fun d _ => congrArg (· * _) (spectrum x mod gains cc sc cl sl b p g d)

theorem gateVec (k : Fin 1024) : val_main_v5 (F := Ideal) mod (ix3 0 0 k) = mod (ix3 0 2 k) := by
  have hk := k.isLt
  pointwise [val_main_v5, val_main_v2, val_main_v1, val_main_v0]
  exact congrArg mod (congrArg₂ (fun r l => ix3 0 r l) (Fin.ext (by show (2048 + (k : ℕ)) / 1024 = 2; omega)) rfl)

/-- The reference's result. -/
theorem result (r : Fin 8192) (n : Fin 1024) :
    val_main_v59 (F := Ideal) x mod gains cc sc cl sl w (ix2 r n)
      = Layer.closed (fun l => x (ix3 ⟨r / 256, by omega⟩ ⟨r % 256, by omega⟩ l)) (fun l => mod (ix3 0 2 l))
          (branch x mod gains cc sc cl sl w ⟨r / 256, by omega⟩ ⟨r % 256, by omega⟩) (fun l => gains (ix2 1 l)) n := by
  pointwise [val_main_v59, val_main_v58, val_main_v57, val_main_v56, val_main_v55, val_main_v54, val_main_v53, val_main_v52,
    val_main_v51, val_main_v50, val_main_v49, val_main_v48, val_main_cst_5, val_main_v47, val_main_v46, val_main_cst_4,
    val_main_v45, val_main_v44, val_main_cst_3, val_main_v43, val_main_v42, val_main_v41, projection, gateVec, Layer.closed,
    Layer.rmsFactor]

end Cert.FourierRefIdeal.Meet

namespace Cert.FourierIdeal.Meet

open Cert.FourierIdeal Cert.FourierIdeal.Gen

/-- The kernel's modulated rows, in a block of 256 of them. -/
theorem hidden (v0 : FVec Ideal S1x6x1024 .f32) (v2 : FVec Ideal S256x1024 .f32) (v4 : FVec Ideal S1x1024 .f32)
    (r : Fin 256) (k : Fin 1024) :
    k0_pay4 (F := Ideal) v0 v2 v4 (ix2 r k)
      = Layer.modNorm (fun l => v2 (ix2 r l)) (fun l => v4 (ix2 0 l)) (fun l => v0 (ix3 0 1 l)) (fun l => v0 (ix3 0 0 l)) k := by
  pointwise [k0_pay4, k0_pay3, k0_pay2, Layer.modNorm, Layer.rmsFactor]

section Groups

variable (h : FVec Ideal S256x1024 .bf16) (cs : FVec Ideal S128x256 .bf16) (cl sl : FVec Ideal S256x256 .bf16)

/-- The transform the kernel's blocks hold, the channel tables lying side by side. -/
abbrev tf (p : Fin 256) (g : Fin 8) (d : Fin 128) : EReal :=
  Layer.fourier (fun t k => h (ix2 t k)) (fun c d => cs (ix2 c ⟨d.val, by omega⟩)) (fun c d => cs (ix2 c ⟨128 + d.val, by omega⟩))
    (fun p t => cl (ix2 p t)) (fun p t => sl (ix2 p t)) p g d

/-- What a group adds to the projection. -/
abbrev part (w : FVec Ideal S128x1024 .bf16) (p : Fin 256) (n : Fin 1024) (g : Fin 8) : EReal :=
  ∑ d, tf h cs cl sl p g d * w (ix2 d n)

/-- The payloads in which the kernel forms its groups, each read as the groups it adds. -/
theorem fifth (w : FVec Ideal S128x1024 .bf16) (p : Fin 256) (n : Fin 1024) :
    k0_pay13 (F := Ideal) h cs cl sl w (ix2 p n) = part h cs cl sl w p n 4 := by
  pointwise [k0_pay13]
  rfl

theorem third (p : Fin 256) (d : Fin 128) :
    k0_pay11 (F := Ideal) h cs cl sl (ix2 p d) = tf h cs cl sl p 2 d := by
  pointwise [k0_pay11]
  rfl

theorem fourth (a : FVec Ideal S256x1024 .f32) (f : FVec Ideal S256x128 .bf16) (w w' : FVec Ideal S128x1024 .bf16) (p : Fin 256) (n : Fin 1024) :
    k0_pay12 (F := Ideal) h cs a f w cl sl w' (ix2 p n) = a (ix2 p n) + (∑ d, f (ix2 p d) * w (ix2 d n)) + part h cs cl sl w' p n 3 := by
  pointwise [k0_pay12]
  rfl

theorem seventh (a b : FVec Ideal S256x1024 .f32) (w w' : FVec Ideal S128x1024 .bf16) (p : Fin 256) (n : Fin 1024) :
    k0_pay14 (F := Ideal) h cs a b cl sl w cl sl w' (ix2 p n)
      = a (ix2 p n) + b (ix2 p n) + part h cs cl sl w p n 5 + part h cs cl sl w' p n 6 := by
  pointwise [k0_pay14]
  rfl

theorem second (v0 : FVec Ideal S1x6x1024 .f32) (v2 : FVec Ideal S256x1024 .f32) (v4 : FVec Ideal S1x1024 .f32)
    (v26 : FVec Ideal S128x256 .bf16) (w w' : FVec Ideal S128x1024 .bf16) (p : Fin 256) (n : Fin 1024) :
    k0_pay10 (F := Ideal) h cs (k0_pay7 v0 v2 v4 v26 cl) (k0_pay8 sl) (k0_pay9 v0 v2 v4 v26) (constant S256x128 .f32 0x00000000#32) w cl sl w' (ix2 p n)
      = part (k0_pay4 v0 v2 v4) v26 cl sl w p n 0 + part h cs cl sl w' p n 1 := by
  pointwise [k0_pay10, k0_pay7, k0_pay8, k0_pay9, k0_pay6, k0_pay5]
  rfl

/-- The closing step over the summed projection. -/
theorem closing (v0 : FVec Ideal S1x6x1024 .f32) (x a : FVec Ideal S256x1024 .f32) (w : FVec Ideal S128x1024 .bf16) (g : FVec Ideal S1x1024 .f32)
    (p : Fin 256) (n : Fin 1024) :
    k0_pay1 (F := Ideal) (k0_pay2 v0) (k0_pay3 x) a (k0_pay15 h cs) cl sl w g (ix2 p n)
      = Layer.closed (fun l => x (ix2 p l)) (fun l => v0 (ix3 0 2 l)) (fun l => a (ix2 p l) + part h cs cl sl w p l 7) (fun l => g (ix2 0 l)) n := by
  pointwise [k0_pay1, k0_pay2, k0_pay3, k0_pay15, Layer.closed, Layer.rmsFactor]
  rfl

end Groups

variable (m : (ℓ : Loc nD τ sig) → Buf (Elt Ideal) ℓ)

/-- Where each window's block lies: the rows in steps of 256, the other operands whole. -/
theorem idx : ∀ t : Fin cfg0.N,
    win0_0.index t = ![t.val, 0] ∧ win0_1.index t = ![0, 0, 0] ∧ win0_2.index t = ![0, 0] ∧ win0_3.index t = ![0, 0]
      ∧ win0_4.index t = ![0, 0] ∧ win0_5.index t = ![0, 0] ∧ win0_6.index t = ![0, 0] ∧ win0_7.index t = ![t.val, 0] :=
  (by decide +kernel : ∀ t : Fin grid0.N, _)

/-- The input rows a point stages: those of one sequence. -/
theorem block0 (c : Dev nD) (t : Fin cfg0.N) (r : Fin 256) (k : Fin 1024) :
    (show EReal from iblk m c 0 t (ix2 r k)) = m ((c.tc : Thread nD τ).loc main_arg0) (ix3 ⟨t.val, t.isLt⟩ r k) := by
  blk_point [iblk, V, idx t]

/-- The modulation vectors. -/
theorem block1 (c : Dev nD) (t : Fin cfg0.N) (a : Fin 6) (k : Fin 1024) :
    (show EReal from iblk m c 1 t (ix3 0 a k)) = m ((c.tc : Thread nD τ).loc main_arg1) (ix3 0 a k) := by
  blk_point [iblk, V, idx t]

/-- The gains. -/
theorem block2 (c : Dev nD) (t : Fin cfg0.N) (a : Fin 4) (k : Fin 1024) :
    (show EReal from iblk m c 2 t (ix2 a k)) = m ((c.tc : Thread nD τ).loc main_arg2) (ix2 a k) := by
  blk_point [iblk, V, idx t]

/-- The channel tables side by side, as the host joins them. -/
theorem joined (c : Dev nD) (a : Fin 128) (d : Fin 128) :
    (show EReal from V m c main_v4 (ix2 a ⟨d.val, by omega⟩)) = m ((c.tc : Thread nD τ).loc main_arg3) (ix2 a d)
      ∧ (show EReal from V m c main_v4 (ix2 a ⟨128 + d.val, by omega⟩)) = m ((c.tc : Thread nD τ).loc main_arg4) (ix2 a d) := by
  have e : V m c main_v4 = truncf (F := Ideal) .bf16 (concatenate S128x256 1 [⟨S128x128, m ((c.tc : Thread nD τ).loc main_arg3)⟩,
    ⟨S128x128, m ((c.tc : Thread nD τ).loc main_arg4)⟩] concatenates_S128x128_S128x128_S128x256_d1) bitsLt_bf16_f32 := rfl
  have hd := d.isLt
  constructor
  · rw [e]
    pointwise
  · rw [e]
    pointwise

theorem block3 (c : Dev nD) (t : Fin cfg0.N) (a : Fin 128) (d : Fin 256) :
    (show EReal from iblk m c 3 t (ix2 a d)) = V m c main_v4 (ix2 a d) := by
  blk_point [iblk, idx t]

/-- The position tables. -/
theorem block4 (c : Dev nD) (t : Fin cfg0.N) (p q : Fin 256) :
    (show EReal from iblk m c 4 t (ix2 p q)) = m ((c.tc : Thread nD τ).loc main_arg5) (ix2 p q) := by
  blk_point [iblk, V, idx t]

theorem block5 (c : Dev nD) (t : Fin cfg0.N) (p q : Fin 256) :
    (show EReal from iblk m c 5 t (ix2 p q)) = m ((c.tc : Thread nD τ).loc main_arg6) (ix2 p q) := by
  blk_point [iblk, V, idx t]

/-- The output weight. -/
theorem block6 (c : Dev nD) (t : Fin cfg0.N) (k n : Fin 1024) :
    (show EReal from iblk m c 6 t (ix2 k n)) = m ((c.tc : Thread nD τ).loc main_arg7) (ix3 0 k n) := by
  blk_point [iblk, V, idx t]

/-- Row `r` of the block a point writes back is row `256 t + r` of the result. -/
theorem place7 (t : Fin cfg0.N) (r : Fin 256) (n : Fin 1024) :
    ((cfg0.win 7).blk t).view.emb (ix2 r n) = ix2 ⟨t.val * 256 + r, by have := t.isLt; have : cfg0.N = 32 := rfl; omega⟩ n := by
  blk_ext [idx t]

/-- A group's rows of the weight, and a row of the gains, read at the place the kernel loads them from. -/
theorem ld_group (w : Vec Ideal S1024x1024 .bf16) (g : Fin 8) (h) (d : Fin 128) (n : Fin 1024) :
    (show EReal from View.ld w (Rect.unit (s := S1024x1024) ![g.val * 128, 0] ![128, 1024] h) (ix2 d n)) = w (ix2 (Layer.chan g d) n) :=
  congrArg w (funext fun b => Fin.ext (by
    fin_cases b
    · show g.val * 128 + 1 * d.val = g.val * 128 + d.val; omega
    · show 0 + 1 * n.val = n.val; omega))

theorem ld_gain (x : Vec Ideal S4x1024 .f32) (a : Fin 4) (h) (l : Fin 1024) :
    (show EReal from View.ld x (Rect.unit (s := S4x1024) ![a.val, 0] ![1, 1024] h) (ix2 0 l)) = x (ix2 a l) :=
  congrArg x (funext fun b => Fin.ext (by
    fin_cases b
    · show a.val + 1 * 0 = a.val; omega
    · show 0 + 1 * l.val = l.val; omega))

/-- The reference's rows and transform over the launched arguments. -/
abbrev rowsAt (c : Dev nD) (t : Fin cfg0.N) (r : Fin 256) (k : Fin 1024) : EReal :=
  Cert.FourierRefIdeal.Meet.rows (m ((c.tc : Thread nD τ).loc main_arg0)) (m ((c.tc : Thread nD τ).loc main_arg1))
    (m ((c.tc : Thread nD τ).loc main_arg2)) ⟨t.val, t.isLt⟩ r k

abbrev transformedAt (c : Dev nD) (t : Fin cfg0.N) (p : Fin 256) (g : Fin 8) (d : Fin 128) : EReal :=
  Cert.FourierRefIdeal.Meet.transformed (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) ⟨t.val, t.isLt⟩ p g d

/-- The rows a point forms are the reference's. -/
theorem rows_block (c : Dev nD) (t : Fin cfg0.N) (h) (r : Fin 256) (k : Fin 1024) :
    k0_pay4 (F := Ideal) (iblk m c 1 t) (iblk m c 0 t) (View.ld (iblk m c 2 t) (Rect.unit (s := S4x1024) ![0, 0] ![1, 1024] h)) (ix2 r k)
      = rowsAt m c t r k := by
  rw [hidden, show (fun l => (show EReal from iblk m c 0 t (ix2 r l))) = _ from funext fun l => block0 m c t r l,
    show (fun l => (show EReal from View.ld (iblk m c 2 t) (Rect.unit (s := S4x1024) ![0, 0] ![1, 1024] h) (ix2 0 l))) = _
      from funext fun l => (ld_gain (iblk m c 2 t) 0 h l).trans (block2 m c t 0 l),
    show (fun l => (show EReal from iblk m c 1 t (ix3 0 1 l))) = _ from funext fun l => block1 m c t 1 l,
    show (fun l => (show EReal from iblk m c 1 t (ix3 0 0 l))) = _ from funext fun l => block1 m c t 0 l]
  rfl

/-- A group's part over the staged blocks, its rows being the reference's. -/
theorem part_block (c : Dev nD) (t : Fin cfg0.N) (hs : FVec Ideal S256x1024 .bf16) (hh : ∀ r k, hs (ix2 r k) = rowsAt m c t r k)
    (g : Fin 8) (h) (p : Fin 256) (n : Fin 1024) :
    part hs (iblk m c 3 t) (iblk m c 4 t) (iblk m c 5 t)
        (View.ld (iblk m c 6 t) (Rect.unit (s := S1024x1024) ![g.val * 128, 0] ![128, 1024] h)) p n g
      = ∑ d, transformedAt m c t p g d * m ((c.tc : Thread nD τ).loc main_arg7) (ix3 0 (Layer.chan g d) n) := by
  refine Finset.sum_congr rfl fun d _ => congrArg₂ (· * ·) ?_ ((ld_group (iblk m c 6 t) g h d n).trans (block6 m c t _ n))
  unfold tf transformedAt Cert.FourierRefIdeal.Meet.transformed Layer.fourier
  refine congrArg₂ (· - ·) (Finset.sum_congr rfl fun q _ => congrArg₂ (· * ·) (block4 m c t p q) ?_)
    (Finset.sum_congr rfl fun q _ => congrArg₂ (· * ·) (block5 m c t p q) ?_)
  · exact Finset.sum_congr rfl fun a _ => congrArg₂ (· * ·) (hh q _) ((block3 m c t a _).trans (joined m c a d).1)
  · exact Finset.sum_congr rfl fun a _ => congrArg₂ (· * ·) (hh q _) ((block3 m c t a _).trans (joined m c a d).2)

/-- The result after the call is the reference's. -/
theorem final7 (c : Dev nD) :
    (dats m 0 c).arrAt 7 (cfgs 0).N
      = Cert.FourierRefIdeal.Read.val_main_v59 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  refine (dats m 0 c).arrAt_eq_of_covers 7 _ (by decide +kernel) fun t _ y => ?_
  blk_simp
  rw [after0_7]
  unfold out0_7 k0_pay16 k0_pay17
  frame_out
  rw [show k0_pay5 (F := Ideal) (iblk m c 3 t) = iblk m c 3 t from funext fun i => by idx_vars i; pointwise [k0_pay5]]
  idx_vars y
  have ht : t.val < 32 := t.isLt
  refine Eq.trans ?_ (congrArg _ (place7 t y0 y1)).symm
  rw [Cert.FourierRefIdeal.Meet.result, closing]
  rw [show (⟨(t.val * 256 + y0.val) / 256, by omega⟩ : Fin 32) = ⟨t.val, t.isLt⟩ from Fin.ext (by show (t.val * 256 + y0.val) / 256 = t.val; omega),
    show (⟨(t.val * 256 + y0.val) % 256, by omega⟩ : Fin 256) = y0 from Fin.ext (by show (t.val * 256 + y0.val) % 256 = y0; omega)]
  rw [show (fun l => (show EReal from iblk m c 0 t (ix2 y0 l))) = _ from funext fun l => block0 m c t y0 l,
    show (fun l => (show EReal from iblk m c 1 t (ix3 0 2 l))) = _ from funext fun l => block1 m c t 2 l,
    show (fun l => (show EReal from View.ld (iblk m c 2 t) r0_13 (ix2 0 l))) = _
      from funext fun l => (ld_gain (iblk m c 2 t) 1 _ l).trans (block2 m c t 1 l)]
  refine congrArg (fun a => Layer.closed _ _ a _ y1) (funext fun l => ?_)
  rw [seventh, fourth, second, fifth, Cert.FourierRefIdeal.Meet.branch, Fin.sum_univ_eight]
  have hp := part_block m c t _ (rows_block m c t (by decide))
  refine congrArg₂ (· + ·) (congrArg₂ (· + ·) (congrArg₂ (· + ·) (congrArg₂ (· + ·) (congrArg₂ (· + ·) (congrArg₂ (· + ·)
    (congrArg₂ (· + ·) ?_ ?_) ?_) ?_) ?_) ?_) ?_) ?_
  · exact hp 0 _ y0 l
  · exact hp 1 _ y0 l
  · exact (Finset.sum_congr rfl fun d _ => congrArg (· * _) (third _ _ _ _ y0 d)).trans (hp 2 _ y0 l)
  · exact hp 3 _ y0 l
  · exact hp 4 _ y0 l
  · exact hp 5 _ y0 l
  · exact hp 6 _ y0 l
  · exact hp 7 _ y0 l

end Cert.FourierIdeal.Meet

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.KernelIdeal.Value
public import proofs.«01_k».proof.Proof.Gen.FfnIdeal.Value
public import proofs.«01_k».proof.Proof.Gen.ReferenceIdeal.Run
public import proofs.«01_k».proof.Proof.Gen.ReferenceIdeal.Read
public import proofs.«01_k».proof.Proof.Gen.FfnRefIdeal.Run
public import proofs.«01_k».proof.Proof.Gen.FfnRefIdeal.Read
public import proofs.«01_k».proof.Proof.Gen.Cache
public import proofs.«01_k».proof.Proof.Gen.Cache.Skeleton
public import proofs.«01_k».proof.Proof.Gen.Cache.Launch
public import proofs.«01_k».proof.Proof.Gen.Cache.Points
public import proofs.«01_k».proof.Proof.Gen.Cache.Frame
public import proofs.«01_k».proof.Proof.Gen.CacheIdeal
public import proofs.«01_k».proof.Proof.Gen.CacheIdeal.Skeleton
public import proofs.«01_k».proof.Proof.Gen.CacheIdeal.Launch
public import proofs.«01_k».proof.Proof.Gen.CacheIdeal.Points
public import proofs.«01_k».proof.Proof.Gen.CacheIdeal.Frame
public import proofs.«01_k».proof.Proof.Gen.CacheRefIdeal
public import proofs.«01_k».proof.Proof.Gen.CacheRefIdeal.Run
public import proofs.«01_k».proof.Proof.Gen.CacheRefIdeal.Read
public import proofs.«01_k».proof.Proof.Gen.Fourier
public import proofs.«01_k».proof.Proof.Gen.Fourier.Skeleton
public import proofs.«01_k».proof.Proof.Gen.Fourier.Launch
public import proofs.«01_k».proof.Proof.Gen.Fourier.Points
public import proofs.«01_k».proof.Proof.Gen.Fourier.Frame
public import proofs.«01_k».proof.Proof.Gen.FourierIdeal
public import proofs.«01_k».proof.Proof.Gen.FourierIdeal.Skeleton
public import proofs.«01_k».proof.Proof.Gen.FourierIdeal.Launch
public import proofs.«01_k».proof.Proof.Gen.FourierIdeal.Points
public import proofs.«01_k».proof.Proof.Gen.FourierIdeal.Frame
public import proofs.«01_k».proof.Proof.Gen.FourierIdeal.Value
public import proofs.«01_k».proof.Proof.Gen.FourierRefIdeal
public import proofs.«01_k».proof.Proof.Gen.FourierRefIdeal.Run
public import proofs.«01_k».proof.Proof.Gen.FourierRefIdeal.Read
public import Idealize.ShloMosaic.Adequacy
public import Idealize.ShloMosaic.Init
public import proofs.«01_k».proof.Proof.Cache
public import proofs.«01_k».proof.Proof.Ffn
public import proofs.«01_k».proof.Proof.Attention
public import proofs.«01_k».proof.Proof.Fourier

@[expose] public section

noncomputable section

namespace Cert.Proof

open Idealize.ShloMosaic Idealize.SL.Sem

theorem preFacts : Cert.Pre_finite_queries_keys.Facts := ⟨by decide, by decide, by decide⟩

attribute [local instance] Cert.Kernel.Gen.facts Cert.KernelIdeal.Gen.facts Cert.ReferenceIdeal.Gen.facts Cert.Ffn.Gen.facts Cert.FfnIdeal.Gen.facts
  Cert.FfnRefIdeal.Gen.facts Cert.Cache.Gen.facts Cert.CacheIdeal.Gen.facts Cert.CacheRefIdeal.Gen.facts
  Cert.Fourier.Gen.facts Cert.FourierIdeal.Gen.facts Cert.FourierRefIdeal.Gen.facts preFacts

theorem attentionRef : quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)

theorem ffnRef : quiescent_FfnRefIdeal := fun m ρ _ =>
  (θ_run Cert.FfnRefIdeal.defs _ _).mono (fun r h => ⟨fun c => (h c).2, sem_eq_zero_of_no_sems (by decide) r.2⟩) (Cert.FfnRefIdeal.Value.run m ρ)

theorem cacheRef : quiescent_CacheRefIdeal := fun m ρ _ =>
  (θ_run Cert.CacheRefIdeal.defs _ _).mono (fun r h => ⟨fun c => (h c).2.2.2.2, sem_eq_zero_of_no_sems (by decide) r.2⟩) (Cert.CacheRefIdeal.Value.run m ρ)

theorem fourierRef : quiescent_FourierRefIdeal := fun m ρ _ =>
  (θ_run Cert.FourierRefIdeal.defs _ _).mono (fun r h => ⟨fun c => (h c).2, sem_eq_zero_of_no_sems (by decide) r.2⟩) (Cert.FourierRefIdeal.Value.run m ρ)

set_option maxHeartbeats 1600000 in
theorem attention : algebraic_KernelIdeal_ReferenceIdeal_pre_finite_queries_keys := by
  pair_intro
  · run_from Cert.KernelIdeal.Gen.run_main m g
  · hlo_run
    obtain ⟨hq, hk⟩ := Cert.KernelIdeal.Meet.finite_of_pre m hpre c
    exact (Cert.KernelIdeal.Meet.final5 m c hq hk).symm

set_option maxHeartbeats 1600000 in
theorem ffn : algebraic_FfnIdeal_FfnRefIdeal := by
  pair_intro
  · run_from Cert.FfnIdeal.Gen.run_main m g
  · hlo_run
    all_goals exact (Cert.FfnIdeal.Meet.final8 m c).symm

set_option maxHeartbeats 3200000 in
theorem cache : algebraic_CacheIdeal_CacheRefIdeal := by
  pair_intro
  · exact Cert.CacheIdeal.Meet.run_results m g
  · hlo_run
    · exact (Cert.CacheIdeal.Meet.final4 m g c).symm
    · exact (Cert.CacheIdeal.Meet.final5 m g c).symm
    · exact (Cert.CacheIdeal.Meet.final6 m g c).symm
    · exact (Cert.CacheIdeal.Meet.final7 m g c).symm

set_option maxHeartbeats 1600000 in
theorem fourier : algebraic_FourierIdeal_FourierRefIdeal := by
  pair_intro
  · run_from Cert.FourierIdeal.Gen.run_main m g
  · hlo_run
    exact (Cert.FourierIdeal.Meet.final7 m c).symm

theorem claim : Cert.Claim :=
  ⟨Cert.Kernel.Gen.facts, Cert.KernelIdeal.Gen.facts, Cert.ReferenceIdeal.Gen.facts, Cert.Ffn.Gen.facts, Cert.FfnIdeal.Gen.facts, Cert.FfnRefIdeal.Gen.facts,
    Cert.Cache.Gen.facts, Cert.CacheIdeal.Gen.facts, Cert.CacheRefIdeal.Gen.facts,
    Cert.Fourier.Gen.facts, Cert.FourierIdeal.Gen.facts, Cert.FourierRefIdeal.Gen.facts, preFacts,
    fun m ρ _ => Cert.Kernel.Gen.frame m ρ, fun m ρ _ => Cert.KernelIdeal.Gen.frame m ρ, fun m ρ _ => Cert.KernelIdeal.Gen.frame m ρ,
    attentionRef, fun m ρ _ => attentionRef m ρ trivial,
    fun m ρ _ => Cert.Ffn.Gen.frame m ρ, fun m ρ _ => Cert.FfnIdeal.Gen.frame m ρ, ffnRef,
    fun m ρ _ => Cert.Cache.Gen.frame m ρ, fun m ρ _ => Cert.CacheIdeal.Gen.frame m ρ, cacheRef,
    fun m ρ _ => Cert.Fourier.Gen.frame m ρ, fun m ρ _ => Cert.FourierIdeal.Gen.frame m ρ, fourierRef,
    trivial, attention, trivial, ffn, trivial, cache, trivial, fourier⟩

end Cert.Proof

end
